-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keeps_Kernel [hPre_keeps_Kernel : Cert.Pre_keeps_Kernel.Facts] (m : (ℓ : Loc Cert.Kernel.nD Cert.Kernel.τ Cert.Kernel.sig) → Buf (Elt Bits) ℓ) : Prop :=
  ∀ c : Dev Cert.Kernel.nD,
    (Cert.Pre_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keeps_Kernel [hPre_keeps_Kernel : Cert.Pre_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_swaps_Reference [hPre_swaps_Reference : Cert.Pre_swaps_Reference.Facts] (m : (ℓ : Loc Cert.Reference.nD Cert.Reference.τ Cert.Reference.sig) → Buf (Elt Bits) ℓ) : Prop :=
  ∀ c : Dev Cert.Reference.nD,
    (Cert.Pre_swaps_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_keeps_Reference [hPre_keeps_Reference : Cert.Pre_keeps_Reference.Facts] (m : (ℓ : Loc Cert.Reference.nD Cert.Reference.τ Cert.Reference.sig) → Buf (Elt Bits) ℓ) : Prop :=
  ∀ c : Dev Cert.Reference.nD,
    (Cert.Pre_keeps_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_Reference [hPre_swaps_Reference : Cert.Pre_swaps_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keeps_Reference [hPre_keeps_Reference : Cert.Pre_keeps_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keeps_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keeps_Kernel [hKernel : Cert.Kernel.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg), Pre_Kernel_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keeps_Kernel [hKernelIdeal : Cert.KernelIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_swaps_Reference [hReference : Cert.Reference.Facts] [hPre_swaps_Reference : Cert.Pre_swaps_Reference.Facts] : Prop :=
  ∀ (m : (ℓ : Loc Cert.Reference.nD Cert.Reference.τ Cert.Reference.sig) → Buf (Elt Bits) ℓ) (g : Dev Cert.Reference.nD → PrngReg), Pre_Reference_swaps_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_keeps_Reference [hReference : Cert.Reference.Facts] [hPre_keeps_Reference : Cert.Pre_keeps_Reference.Facts] : Prop :=
  ∀ (m : (ℓ : Loc Cert.Reference.nD Cert.Reference.τ Cert.Reference.sig) → Buf (Elt Bits) ℓ) (g : Dev Cert.Reference.nD → PrngReg), Pre_Reference_keeps_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_Reference [hReferenceIdeal : Cert.ReferenceIdeal.Facts] [hPre_swaps_Reference : Cert.Pre_swaps_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keeps_Reference [hReferenceIdeal : Cert.ReferenceIdeal.Facts] [hPre_keeps_Reference : Cert.Pre_keeps_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keeps_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keeps_Kernel [hKernelIdeal : Cert.KernelIdeal.Facts] [hReferenceIdeal : Cert.ReferenceIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keeps_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨3, ![1, 2048, 1024]⟩ ⟨3, ![2, 2048, 1024]⟩ (Layout.meshBlock [2, 2] ![[0], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v8)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 2048, 1024]⟩ ⟨3, ![2, 2048, 1024]⟩ (Layout.meshBlock [2, 2] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v8) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_keeps_Kernel [hKernel : Cert.Kernel.Facts] [hReference : Cert.Reference.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_keeps_Kernel m →
    (∀ c : Dev Cert.Kernel.nD,
      m ((c.tc : Thread Cert.Kernel.nD Cert.Kernel.τ).loc Cert.Kernel.main_arg0) = Layout.blockN ⟨3, ![1, 2048, 1024]⟩ ⟨3, ![2, 2048, 1024]⟩ (Layout.meshBlock [2, 2] ![[0], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v8)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 2048, 1024]⟩ ⟨3, ![2, 2048, 1024]⟩ (Layout.meshBlock [2, 2] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v8) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_swaps_Kernel : Cert.Pre_swaps_Kernel.Facts) (hPre_keeps_Kernel : Cert.Pre_keeps_Kernel.Facts) (hPre_swaps_Reference : Cert.Pre_swaps_Reference.Facts) (hPre_keeps_Reference : Cert.Pre_keeps_Reference.Facts),
    quiescent_Kernel (hKernel := hKernel) (hPre_swaps_Kernel := hPre_swaps_Kernel)
    ∧ quiescent_Kernel_pre_keeps_Kernel (hKernel := hKernel) (hPre_keeps_Kernel := hPre_keeps_Kernel)
    ∧ quiescent_KernelIdeal (hKernelIdeal := hKernelIdeal) (hPre_swaps_Kernel := hPre_swaps_Kernel)
    ∧ quiescent_KernelIdeal_pre_keeps_Kernel (hKernelIdeal := hKernelIdeal) (hPre_keeps_Kernel := hPre_keeps_Kernel)
    ∧ quiescent_Reference (hReference := hReference)
    ∧ quiescent_Reference_pre_swaps_Reference (hReference := hReference) (hPre_swaps_Reference := hPre_swaps_Reference)
    ∧ quiescent_Reference_pre_keeps_Reference (hReference := hReference) (hPre_keeps_Reference := hPre_keeps_Reference)
    ∧ quiescent_ReferenceIdeal (hReferenceIdeal := hReferenceIdeal)
    ∧ quiescent_ReferenceIdeal_pre_swaps_Reference (hReferenceIdeal := hReferenceIdeal) (hPre_swaps_Reference := hPre_swaps_Reference)
    ∧ quiescent_ReferenceIdeal_pre_keeps_Reference (hReferenceIdeal := hReferenceIdeal) (hPre_keeps_Reference := hPre_keeps_Reference)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_keeps_Kernel (hKernelIdeal := hKernelIdeal) (hReferenceIdeal := hReferenceIdeal) (hPre_keeps_Kernel := hPre_keeps_Kernel)
    ∧ bitexact_Kernel_Reference (hKernel := hKernel) (hReference := hReference) (hPre_swaps_Kernel := hPre_swaps_Kernel)
    ∧ bitexact_Kernel_Reference_pre_keeps_Kernel (hKernel := hKernel) (hReference := hReference) (hPre_keeps_Kernel := hPre_keeps_Kernel)
-- ==== Pre_keeps_Kernel.lean ====
abbrev S1x2048x1024 : Shape := ⟨3, ![1, 2048, 1024]⟩
abbrev S2 : Shape := ⟨1, ![2]⟩

class Facts : Prop where

variable [Facts]

def fn {F : FTy → Type} [FloatOps F] (main_arg0 : FVec F S1x2048x1024 .f32) (main_arg1 : IVec S2 32) : IVec S2 1 :=
  let main_v0 : IVec S2 32 := iotaInDim S2 32 0
  let main_v1 : IVec S2 1 := cmpi .eq main_arg1 main_v0
  main_v1
-- ==== Pre_keeps_Reference.lean ====
abbrev S2x2048x1024 : Shape := ⟨3, ![2, 2048, 1024]⟩
abbrev S2 : Shape := ⟨1, ![2]⟩

class Facts : Prop where

variable [Facts]

def fn {F : FTy → Type} [FloatOps F] (main_arg0 : FVec F S2x2048x1024 .f32) (main_arg1 : IVec S2 32) : IVec S2 1 :=
  let main_v0 : IVec S2 32 := iotaInDim S2 32 0
  let main_v1 : IVec S2 1 := cmpi .eq main_arg1 main_v0
  main_v1
-- ==== Pre_swaps_Kernel.lean ====
abbrev S1x2048x1024 : Shape := ⟨3, ![1, 2048, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x2048x1024 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_swaps_Reference.lean ====
abbrev S2x2048x1024 : Shape := ⟨3, ![2, 2048, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x2048x1024 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Kernel.lean ====
abbrev S1x2048x1024 : Shape := ⟨3, ![1, 2048, 1024]⟩
abbrev S2 : Shape := ⟨1, ![2]⟩
abbrev S8x256x1024 : Shape := ⟨3, ![8, 256, 1024]⟩
abbrev S8 : Shape := ⟨1, ![8]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 3
  | .vmem => 2
  | .smem => 1
  | _ => 0

abbrev bufTy : (tb : Table) → Fin (tcTables nBuf tb) → BufTy
  | .hbm, ⟨0, _⟩ => ⟨S1x2048x1024, .f32⟩
  | .hbm, ⟨1, _⟩ => ⟨S2, .i32⟩
  | .hbm, ⟨2, _⟩ => ⟨S1x2048x1024, .bf16⟩
  | .local _ .vmem, ⟨0, _⟩ => ⟨S8x256x1024, .f32⟩
  | .local _ .vmem, ⟨1, _⟩ => ⟨S8x256x1024, .bf16⟩
  | .local _ .smem, ⟨0, _⟩ => ⟨S2, .i32⟩
  | _, _ => ⟨S1x2048x1024, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : Index := Scalar.indexCast v2
  ![v6.toNat]
def k0_dev1 (d0 : Dev nD) (v7 : BitVec 32) : Nat :=
  let c0_i32_97 : BitVec 32 := 0#32
  let c2_i32_96 : BitVec 32 := 2#32
  let v63 : BitVec 32 := Scalar.muli v7 c2_i32_96
  let v64 : BitVec 32 := Scalar.addi c0_i32_97 v63
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_98 : BitVec 32 := 1#32
  let v65 : BitVec 32 := Scalar.muli v5 c1_i32_98
  let v66 : BitVec 32 := Scalar.addi v64 v65
  v66.toNat
def k0_cond1 (d0 : Dev nD) (v7 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 1 := Scalar.cmpi .ne v7 v2
  let v58 : BitVec 32 := Scalar.extui v8
  let c0_i32_69 : BitVec 32 := 0#32
  let v59 : BitVec 1 := Scalar.cmpi .ne v58 c0_i32_69
  v59

def k0_dev2 (d0 : Dev nD) (v7 : BitVec 32) : Nat :=
  let c0_i32_115 : BitVec 32 := 0#32
  let c2_i32_114 : BitVec 32 := 2#32
  let v79 : BitVec 32 := Scalar.muli v7 c2_i32_114
  let v80 : BitVec 32 := Scalar.addi c0_i32_115 v79
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_116 : BitVec 32 := 1#32
  let v81 : BitVec 32 := Scalar.muli v5 c1_i32_116
  let v82 : BitVec 32 := Scalar.addi v80 v81
  v82.toNat
def k0_dev3 (d0 : Dev nD) (v7 : BitVec 32) : Nat :=
  let c0_i32_135 : BitVec 32 := 0#32
  let c2_i32_134 : BitVec 32 := 2#32
  let v103 : BitVec 32 := Scalar.muli v7 c2_i32_134
  let v104 : BitVec 32 := Scalar.addi c0_i32_135 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_136 : BitVec 32 := 1#32
  let v105 : BitVec 32 := Scalar.muli v5 c1_i32_136
  let v106 : BitVec 32 := Scalar.addi v104 v105
  v106.toNat
def k0_dev4 (d0 : Dev nD) (v7 : BitVec 32) : Nat :=
  let c0_i32_155 : BitVec 32 := 0#32
  let c2_i32_154 : BitVec 32 := 2#32
  let v127 : BitVec 32 := Scalar.muli v7 c2_i32_154
  let v128 : BitVec 32 := Scalar.addi c0_i32_155 v127
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_156 : BitVec 32 := 1#32
  let v129 : BitVec 32 := Scalar.muli v5 c1_i32_156
  let v130 : BitVec 32 := Scalar.addi v128 v129
  v130.toNat
def k0_dev5 (d0 : Dev nD) (v7 : BitVec 32) : Nat :=
  let c0_i32_175 : BitVec 32 := 0#32
  let c2_i32_174 : BitVec 32 := 2#32
  let v151 : BitVec 32 := Scalar.muli v7 c2_i32_174
  let v152 : BitVec 32 := Scalar.addi c0_i32_175 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_176 : BitVec 32 := 1#32
  let v153 : BitVec 32 := Scalar.muli v5 c1_i32_176
  let v154 : BitVec 32 := Scalar.addi v152 v153
  v154.toNat
def k0_dev6 (d0 : Dev nD) (v7 : BitVec 32) : Nat :=
  let c0_i32_195 : BitVec 32 := 0#32
  let c2_i32_194 : BitVec 32 := 2#32
  let v175 : BitVec 32 := Scalar.muli v7 c2_i32_194
  let v176 : BitVec 32 := Scalar.addi c0_i32_195 v175
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_196 : BitVec 32 := 1#32
  let v177 : BitVec 32 := Scalar.muli v5 c1_i32_196
  let v178 : BitVec 32 := Scalar.addi v176 v177
  v178.toNat
def k0_dev7 (d0 : Dev nD) (v7 : BitVec 32) : Nat :=
  let c0_i32_215 : BitVec 32 := 0#32
  let c2_i32_214 : BitVec 32 := 2#32
  let v199 : BitVec 32 := Scalar.muli v7 c2_i32_214
  let v200 : BitVec 32 := Scalar.addi c0_i32_215 v199
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_216 : BitVec 32 := 1#32
  let v201 : BitVec 32 := Scalar.muli v5 c1_i32_216
  let v202 : BitVec 32 := Scalar.addi v200 v201
  v202.toNat
def k0_dev8 (d0 : Dev nD) (v7 : BitVec 32) : Nat :=
  let c0_i32_235 : BitVec 32 := 0#32
  let c2_i32_234 : BitVec 32 := 2#32
  let v223 : BitVec 32 := Scalar.muli v7 c2_i32_234
  let v224 : BitVec 32 := Scalar.addi c0_i32_235 v223
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v225 : BitVec 32 := Scalar.muli v5 c1_i32_236
  let v226 : BitVec 32 := Scalar.addi v224 v225
  v226.toNat
def k0_dev9 (d0 : Dev nD) (v7 : BitVec 32) : Nat :=
  let c0_i32_255 : BitVec 32 := 0#32
  let c2_i32_254 : BitVec 32 := 2#32
  let v247 : BitVec 32 := Scalar.muli v7 c2_i32_254
  let v248 : BitVec 32 := Scalar.addi c0_i32_255 v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_256 : BitVec 32 := 1#32
  let v249 : BitVec 32 := Scalar.muli v5 c1_i32_256
  let v250 : BitVec 32 := Scalar.addi v248 v249
  v250.toNat

def k0_chk1 (d0 : Dev nD) (v7 : BitVec 32) : Prop :=
  (∀ (k0_h1 : k0_cond1 d0 v7 = 1#1), (k0_dev1 d0 v7) < nD) ∧
  (∀ (k0_h1 : k0_cond1 d0 v7 = 1#1), (k0_dev2 d0 v7) < nD) ∧
  (∀ (k0_h1 : k0_cond1 d0 v7 = 1#1), (k0_dev3 d0 v7) < nD) ∧
  (∀ (k0_h1 : k0_cond1 d0 v7 = 1#1), (k0_dev4 d0 v7) < nD) ∧
  (∀ (k0_h1 : k0_cond1 d0 v7 = 1#1), (k0_dev5 d0 v7) < nD) ∧
  (∀ (k0_h1 : k0_cond1 d0 v7 = 1#1), (k0_dev6 d0 v7) < nD) ∧
  (∀ (k0_h1 : k0_cond1 d0 v7 = 1#1), (k0_dev7 d0 v7) < nD) ∧
  (∀ (k0_h1 : k0_cond1 d0 v7 = 1#1), (k0_dev8 d0 v7) < nD) ∧
  (∀ (k0_h1 : k0_cond1 d0 v7 = 1#1), (k0_dev9 d0 v7) < nD)
theorem k0_dev1_lt : ∀ (d0 : Dev nD) (v7 : BitVec 32) (k0_hw1 : k0_chk1 d0 v7), ∀ (k0_h1 : k0_cond1 d0 v7 = 1#1), (k0_dev1 d0 v7) < nD := fun d0 v7 k0_hw1 k0_h1 => k0_hw1.1 k0_h1
theorem k0_dev2_lt : ∀ (d0 : Dev nD) (v7 : BitVec 32) (k0_hw1 : k0_chk1 d0 v7), ∀ (k0_h1 : k0_cond1 d0 v7 = 1#1), (k0_dev2 d0 v7) < nD := fun d0 v7 k0_hw1 k0_h1 => k0_hw1.2.1 k0_h1
theorem k0_dev3_lt : ∀ (d0 : Dev nD) (v7 : BitVec 32) (k0_hw1 : k0_chk1 d0 v7), ∀ (k0_h1 : k0_cond1 d0 v7 = 1#1), (k0_dev3 d0 v7) < nD := fun d0 v7 k0_hw1 k0_h1 => k0_hw1.2.2.1 k0_h1
theorem k0_dev4_lt : ∀ (d0 : Dev nD) (v7 : BitVec 32) (k0_hw1 : k0_chk1 d0 v7), ∀ (k0_h1 : k0_cond1 d0 v7 = 1#1), (k0_dev4 d0 v7) < nD := fun d0 v7 k0_hw1 k0_h1 => k0_hw1.2.2.2.1 k0_h1
theorem k0_dev5_lt : ∀ (d0 : Dev nD) (v7 : BitVec 32) (k0_hw1 : k0_chk1 d0 v7), ∀ (k0_h1 : k0_cond1 d0 v7 = 1#1), (k0_dev5 d0 v7) < nD := fun d0 v7 k0_hw1 k0_h1 => k0_hw1.2.2.2.2.1 k0_h1
theorem k0_dev6_lt : ∀ (d0 : Dev nD) (v7 : BitVec 32) (k0_hw1 : k0_chk1 d0 v7), ∀ (k0_h1 : k0_cond1 d0 v7 = 1#1), (k0_dev6 d0 v7) < nD := fun d0 v7 k0_hw1 k0_h1 => k0_hw1.2.2.2.2.2.1 k0_h1
theorem k0_dev7_lt : ∀ (d0 : Dev nD) (v7 : BitVec 32) (k0_hw1 : k0_chk1 d0 v7), ∀ (k0_h1 : k0_cond1 d0 v7 = 1#1), (k0_dev7 d0 v7) < nD := fun d0 v7 k0_hw1 k0_h1 => k0_hw1.2.2.2.2.2.2.1 k0_h1
theorem k0_dev8_lt : ∀ (d0 : Dev nD) (v7 : BitVec 32) (k0_hw1 : k0_chk1 d0 v7), ∀ (k0_h1 : k0_cond1 d0 v7 = 1#1), (k0_dev8 d0 v7) < nD := fun d0 v7 k0_hw1 k0_h1 => k0_hw1.2.2.2.2.2.2.2.1 k0_h1
theorem k0_dev9_lt : ∀ (d0 : Dev nD) (v7 : BitVec 32) (k0_hw1 : k0_chk1 d0 v7), ∀ (k0_h1 : k0_cond1 d0 v7 = 1#1), (k0_dev9 d0 v7) < nD := fun d0 v7 k0_hw1 k0_h1 => k0_hw1.2.2.2.2.2.2.2.2 k0_h1

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .f32⟩
  | .hbm, ⟨14, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Chunks.lean ====
/-
# The kernel as a loop over chunks

The kernel moves its block of `x`, 2048 rows, as eight chunks of 256 rows. Its text repeats each step once per
chunk; here each step is written once, for a chunk `k`, and the body is shown to be these steps run over the list
of chunks (`body_eq`). The views a step uses are given for any `k`:
  `xM k`   rows `256 k …` of the argument block           `stM k`  slot `k` of the f32 staging buffer
  `sbM k`  slot `k` of the bf16 buffer sent from          `oM k`   rows `256 k …` of the result block
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Scf
public import Idealize.ShloMosaic.Lib.Tactic

@[expose] public section

noncomputable section

namespace Cert.Permute

open Cert.KernelIdeal Cert.KernelIdeal.Gen
open Idealize.ShloMosaic
open Idealize.ShloMosaic.TcCoe
open Idealize.SL Idealize.SL.Sem

variable {F : FTy → Type} [FloatOps F]

/-! ## Rectangles, views and semaphores of chunk `k` -/

/-- Rows `256 k …` of a block of 2048 rows, -/
abbrev rX (k : Fin 8) : Rect S1x2048x1024 :=
  Rect.unit (s := S1x2048x1024) ![0, 256 * k.val, 0] S1x256x1024.size (by revert k; decide)
/-- slot `k` of a buffer of eight slots, -/
abbrev rS (k : Fin 8) : Rect S8x256x1024 :=
  Rect.unit (s := S8x256x1024) ![k.val, 0, 0] S1x256x1024.size (by revert k; decide)
/-- and entry `k` of an array of eight semaphores. -/
abbrev rQ (k : Fin 8) : Rect S8 := Rect.unit (s := S8) ![k.val] S1.size (by revert k; decide)

abbrev xM (k : Fin 8) : Memref sig .tc .hbm S256x1024 .f32 :=
  ((Memref.whole main_arg0 : Memref sig .tc .hbm S1x2048x1024 .f32).slice (rX k) (fun _ => rfl)).squeeze S256x1024 squeezes_S1x256x1024_S256x1024
abbrev oM (k : Fin 8) : Memref sig .tc .hbm S256x1024 .bf16 :=
  ((Memref.whole main_v1 : Memref sig .tc .hbm S1x2048x1024 .bf16).slice (rX k) (fun _ => rfl)).squeeze S256x1024 squeezes_S1x256x1024_S256x1024
abbrev stW : Memref sig .tc .vmem S8x256x1024 .f32 := Memref.whole cc0_scratch0
abbrev sbW : Memref sig .tc .vmem S8x256x1024 .bf16 := Memref.whole cc0_scratch1
abbrev stM (k : Fin 8) : Memref sig .tc .vmem S256x1024 .f32 := (stW.slice (rS k) (fun _ => rfl)).squeeze S256x1024 squeezes_S1x256x1024_S256x1024
abbrev sbM (k : Fin 8) : Memref sig .tc .vmem S256x1024 .bf16 := (sbW.slice (rS k) (fun _ => rfl)).squeeze S256x1024 squeezes_S1x256x1024_S256x1024

/-- Entry `k` of a semaphore array. -/
abbrev semAt (a : DmaSems sig S8) (k : Fin 8) : DmaSem sig := ((a.slice (rQ k)).squeeze S_ squeezes_S1_S_).sem
abbrev inS (k : Fin 8) : DmaSem sig := semAt cc0_scratch2 k
abbrev outS (k : Fin 8) : DmaSem sig := semAt cc0_scratch3 k
abbrev arrS (k : Fin 8) : DmaSem sig := semAt cc0_scratch4 k
/-- The barrier semaphore the devices meet on. -/
abbrev barS : Sem sig := (SemArray.scalar (sig.barrier 0 rfl) : Sems sig S_).sem

theorem packedS : ∀ k : Fin 8, (rS k).PackedRows (EltTy.packing .bf16) := by decide
theorem wordsS : ∀ k : Fin 8, (rS k).WholeWords (EltTy.packing .bf16) := by decide
theorem wordsX : ∀ k : Fin 8, (rX k).WholeWords (EltTy.packing .bf16) := by decide

theorem xM_words (k : Fin 8) : (xM k).view.WordExact := (View.wordExact_bits rfl).reshape _ _
theorem stM_words (k : Fin 8) : (stM k).view.WordExact := (View.wordExact_bits rfl).reshape _ _
theorem sbM_words (k : Fin 8) : (sbM k).view.WordExact :=
  ((Memref.isWhole_whole cc0_scratch1).wordExact_slice rfl _ (wordsS k)).reshape _ _
theorem oM_words (k : Fin 8) : (oM k).view.WordExact :=
  ((Memref.isWhole_whole main_v1).wordExact_slice rfl _ (wordsX k)).reshape _ _

/-! ## The steps -/

/-- Programs of the kernel. -/
abbrev Pg (F : FTy → Type) : Type 1 := Prog (TpuEff nD τ sig (Elt F) Λ₀ .tc) PUnit

/-- The eight chunks in the kernel's order. -/
def chunks : List (Fin 8) := [0, 1, 2, 3, 4, 5, 6, 7]

/-- Start the copy of chunk `k` of the argument into the staging buffer. -/
def pIn (k : Fin 8) (K : Pg F) : Pg F :=
  .op (.enqueueDma (xM k) (.here (stM k)) (.dma (inS k)) (xM_words k) (stM_words k) ⟨Or.inl rfl, trivial⟩) fun _ => K

/-- The value stored for a chunk read as `v`: each element narrowed to bf16. -/
def narrow (v : Vec F S1x256x1024 .f32) : FVec F S1x256x1024 .bf16 :=
  shapeCast S1x256x1024 (truncf .bf16 (shapeCast S256x1024 v shapeCasts_S1x256x1024_S256x1024) bitsLt_bf16_f32) shapeCasts_S256x1024_S1x256x1024

/-- Wait for chunk `k` to be staged, narrow it, and store it in the buffer sent from. -/
def pNarrow (k : Fin 8) (K : Pg F) : Pg F :=
  .op (.waitDma2 (inS k) (xM k) (stM k) (xM_words k) (stM_words k)) fun _ =>
  .op (.load stW (rS k).toLoadRect (View.loadsAt_vmem h_S1x256x1024)) fun v =>
  .op (.load sbW (rS k).toLoadRect (View.loadsAt_vmem h_S1x256x1024)) fun _ =>
  .op (.store sbW (rS k) (narrow v) Finset.univ
    (View.stores_vmem h_S1x256x1024 ((Memref.isWhole_whole cc0_scratch1).storeExact_slice rfl _ (packedS k)) (fun _ => rfl)) (.inl rfl)) fun _ => K

/-- Narrow chunk `k` and start its transfer to device `n`'s result. -/
def pSend (n : Dev nD) (k : Fin 8) (K : Pg F) : Pg F :=
  pNarrow k <| .op (.enqueueDma (sbM k) (.remote (Dev.tc n) (oM k) (.dma (outS k))) (.dma (arrS k)) (sbM_words k) (oM_words k) ⟨⟨rfl, Or.inl rfl⟩, trivial⟩)
    fun _ => K

/-- Wait until chunk `k` has left and until the peer's chunk `k` has arrived. -/
def pMeet (k : Fin 8) (K : Pg F) : Pg F :=
  .op (.waitDma2 (outS k) (oM k) (sbM k) (oM_words k) (sbM_words k)) fun _ =>
  .op (.waitDma2 (arrS k) (sbM k) (oM k) (sbM_words k) (oM_words k)) fun _ => K

/-- Narrow chunk `k` and start its copy to the device's own result. -/
def pKeep (k : Fin 8) (K : Pg F) : Pg F :=
  pNarrow k <| .op (.enqueueDma (sbM k) (.here (oM k)) (.dma (outS k)) (sbM_words k) (oM_words k) ⟨Or.inl rfl, trivial⟩) fun _ => K

/-- Wait until chunk `k` is in the device's own result. -/
def pKept (k : Fin 8) (K : Pg F) : Pg F :=
  .op (.waitDma2 (outS k) (sbM k) (oM k) (sbM_words k) (oM_words k)) fun _ => K

/-- The exchange with device `n`: meet at the barrier, send every chunk, wait for every chunk. -/
def pSwap (n : Dev nD) (K : Pg F) : Pg F :=
  .op (.semSignal (Dev.tc n) barS (1#32).toInt) fun _ => .op (.semWait barS (1#32).toInt) fun _ =>
    chunks.foldr (pSend n) (chunks.foldr pMeet K)

/-- The copy to the device's own result. -/
def pStay : Pg F := chunks.foldr pKeep (chunks.foldr pKept (.ret ⟨⟩))

/-- The word from which the kernel decides on the copy: one when the destination is the device's own block. -/
def stayWord (c : Dev nD) (w : BitVec 32) : BitVec 32 :=
  Scalar.extui (Scalar.xori (Scalar.cmpi .ne w (Scalar.remsi (Scalar.divsi (Dev.word c) 2#32) 2#32)) 1#1)

/-- The end of the body: the copy, when the word `u` is not zero. -/
def pEnd (u : BitVec 32) : Pg F := if Scalar.cmpi .ne u 0#32 = 1#1 then pStay else .ret ⟨⟩

/-- The body from the word `w` of the table on. -/
def pRest (c : Dev nD) (w : BitVec 32) (hw : k0_chk1 c w) : Pg F :=
  chunks.foldr pIn <|
    if h : k0_cond1 c w = 1#1 then pSwap ⟨k0_dev1 c w, k0_dev1_lt c w hw h⟩ (pEnd (stayWord c w)) else pEnd (stayWord c w)

/-- The whole body. -/
def pBody : Pg F :=
  .op .deviceId fun c =>
    Prog.bind (smemLoad (Memref.whole cc0_stg0_0) (Rect.unit (s := S2) (k0_off1 c) S1.size (k0_off1_inb c)) numel1_S1 rfl) fun w =>
      .op (TpuEff.assume (k0_chk1 c w) (k0_chk1.dec c w)) fun h => pRest c w h.down

/-- The kernel's body, on the buffers the launch hands it. -/
abbrev kBody : Pg F :=
  cc0_body (Memref.whole cc0_stg0_0) (Memref.isWhole_whole _) (Memref.whole main_arg0) (Memref.isWhole_whole _)
    (Memref.whole main_v1) (Memref.isWhole_whole _) stW (Memref.isWhole_whole _) sbW (Memref.isWhole_whole _)
    cc0_scratch2 cc0_scratch3 cc0_scratch4

set_option maxRecDepth 65536 in
/-- The part of the text holding the exchange, with what follows it. -/
theorem part21_eq (d0 : Dev nD) (v5 v7 : BitVec 32) (hw : k0_chk1 d0 v7) (v8 : BitVec 1) (K : BitVec 32 → Pg F) :
    Prog.bind (k0_part21 (F := F) (Memref.whole cc0_stg0_0) (Memref.isWhole_whole _) (Memref.whole main_arg0) (Memref.isWhole_whole _)
      (Memref.whole main_v1) (Memref.isWhole_whole _) stW (Memref.isWhole_whole _) sbW (Memref.isWhole_whole _)
      cc0_scratch2 cc0_scratch3 cc0_scratch4 d0 v5 v7 hw v8 (SemArray.scalar (sig.barrier 0 rfl))) K =
      pIn 7 (if h : k0_cond1 d0 v7 = 1#1 then pSwap ⟨k0_dev1 d0 v7, k0_dev1_lt d0 v7 hw h⟩ (K (Scalar.extui (Scalar.xori v8 1#1)))
        else K (Scalar.extui (Scalar.xori v8 1#1))) := by
  rw [k0_part21_eq_skeleton]
  unfold k0_part21_skel
  by_cases h : k0_cond1 d0 v7 = 1#1
  · simp only [dif_pos h]
    generalize Scalar.extui (Scalar.xori v8 1#1) = e
    rfl
  · simp only [dif_neg h]
    rfl

set_option maxRecDepth 65536 in
/-- The part of the text starting chunks 3 to 6, with what follows it. -/
theorem part20_eq (K : Pg F) :
    Prog.bind (k0_part20 (F := F) (Memref.whole cc0_stg0_0) (Memref.isWhole_whole _) (Memref.whole main_arg0) (Memref.isWhole_whole _)
      (Memref.whole main_v1) (Memref.isWhole_whole _) stW (Memref.isWhole_whole _) sbW (Memref.isWhole_whole _)
      cc0_scratch2 cc0_scratch3 cc0_scratch4) (fun _ => K) = pIn 3 (pIn 4 (pIn 5 (pIn 6 K))) := rfl

set_option maxRecDepth 65536 in
/-- The text of the copy. -/
theorem part18_eq :
    Prog.bind (k0_part18 (F := F) (Memref.whole cc0_stg0_0) (Memref.isWhole_whole _) (Memref.whole main_arg0) (Memref.isWhole_whole _)
      (Memref.whole main_v1) (Memref.isWhole_whole _) stW (Memref.isWhole_whole _) sbW (Memref.isWhole_whole _)
      cc0_scratch2 cc0_scratch3 cc0_scratch4) (fun _ => pKept 7 (.ret ⟨⟩)) = pStay := rfl

set_option maxRecDepth 65536 in
/-- The kernel's body is the steps run over the chunks. -/
theorem body_eq : kBody (F := F) = pBody := by
  unfold kBody cc0_body
  rw [k0_part19_eq_skeleton]
  unfold k0_part19_skel
  simp only [bind_assoc]
  refine congrArg (Prog.op TpuEff.deviceId) (funext fun c => ?_)
  refine congrArg (Prog.bind (smemLoad _ _ _ _)) (funext fun w => ?_)
  refine congrArg (Prog.op (TpuEff.assume _ _)) (funext fun h => ?_)
  refine congrArg (pIn 0) (congrArg (pIn 1) (congrArg (pIn 2) ?_))
  refine (part20_eq _).trans ?_
  refine congrArg (pIn 3) (congrArg (pIn 4) (congrArg (pIn 5) (congrArg (pIn 6) ?_)))
  refine (part21_eq _ _ _ _ _ _).trans (congrArg (pIn 7) ?_)
  have hK : ∀ u : BitVec 32, (if Scalar.cmpi .ne u 0#32 = 1#1 then Prog.bind (k0_part18 (F := F) (Memref.whole cc0_stg0_0) (Memref.isWhole_whole _) (Memref.whole main_arg0) (Memref.isWhole_whole _)
      (Memref.whole main_v1) (Memref.isWhole_whole _) stW (Memref.isWhole_whole _) sbW (Memref.isWhole_whole _)
      cc0_scratch2 cc0_scratch3 cc0_scratch4) (fun _ => pKept 7 (.ret ⟨⟩)) else .ret ⟨⟩) = pEnd u :=
    fun u => by rw [part18_eq]; rfl
  refine dite_congr rfl (fun _ => congrArg (pSwap _) (hK _)) (fun _ => hK _)

end Cert.Permute

end
-- ==== Proof.Schedule.lean ====
/-
# The protocol

Each device has 25 semaphore cells: the barrier cell, and for each of its eight chunks an input cell (the copy into the
staging buffer), a departure cell (the transfer, or the copy, out of the send buffer) and an arrival cell (the peer's
transfer into its result). Every cell has at most one round and in it one duty.
The kernel runs in one of two ways, told apart by `rem`: under `swaps` (`rem = true`) each device sends its chunks to its
peer, under `keeps` (`rem = false`) it copies them to its own result, and then barrier and arrival cells have no duty.
What a duty hands over states the contents: `X c k` is chunk `k` of device `c`'s argument, `T c k` the same narrowed.
-/
module

public import proofs.«01_k».proof.Proof.Chunks
public import Idealize.ShloMosaic.Lib.Pipeline.BigSepL

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (rem : Bool) (m : (ℓ : Loc nD τ sig) → Buf (Elt F) ℓ) (ρ : Dev nD → PrngReg)

/-! ## Devices and cells -/

set_option backward.proofsInPublic true in
/-- The device across the first mesh axis: device `2 x + y` is at `(x, y)`. -/
def peer (c : Dev nD) : Dev nD := ⟨(c.val + 2) % 4, Nat.mod_lt _ (by decide)⟩

theorem peer_peer (c : Dev nD) : peer (peer c) = c := by revert c; decide

/-- The barrier cell of a device, and its input, departure and arrival cells of chunk `k`. -/
abbrev barCell (c : Dev nD) : GSem nD τ sig := ((c : Thread nD τ), .reg barS)
abbrev inCell (c : Dev nD) (k : Fin 8) : GSem nD τ sig := ((c : Thread nD τ), .dma (inS k))
abbrev outCell (c : Dev nD) (k : Fin 8) : GSem nD τ sig := ((c : Thread nD τ), .dma (outS k))
abbrev arrCell (c : Dev nD) (k : Fin 8) : GSem nD τ sig := ((c : Thread nD τ), .dma (arrS k))

/-- The credit of one staged chunk and of one sent chunk. -/
abbrev Nin : ℕ := (stM 0).view.dmaCredit
abbrev Nout : ℕ := (oM 0).view.dmaCredit
theorem Nin_pos : 0 < Nin := View.dmaCredit_pos _ (by decide)
theorem Nout_pos : 0 < Nout := View.dmaCredit_pos _ (by decide)
theorem credit_sb (k : Fin 8) : (sbM k).view.dmaCredit = Nout := rfl
theorem credit_o (k : Fin 8) : (oM k).view.dmaCredit = Nout := rfl
theorem credit_st (k : Fin 8) : (stM k).view.dmaCredit = Nin := rfl

/-! ## Contents -/

/-- Chunk `k` of device `c`'s argument, -/
def X (c : Dev nD) (k : Fin 8) : Vec F S256x1024 .f32 := (xM k).view.read (Elt F) (m ((c : Thread nD τ).loc main_arg0))
/-- and the same narrowed. -/
def T (c : Dev nD) (k : Fin 8) : Vec F S256x1024 .bf16 := truncf .bf16 (X m c k) bitsLt_bf16_f32
/-- The device whose chunks end in device `c`'s result. -/
def src (c : Dev nD) : Dev nD := if rem then peer c else c

def xOwn (c : Dev nD) (k : Fin 8) : sProp 𝕄 := owns (c : Thread nD τ) (xM k) fullShare (X m c k)
def stOwn (c : Dev nD) (k : Fin 8) : sProp 𝕄 := owns (c : Thread nD τ) (stM k) fullShare (X m c k)
def sbOwn (c : Dev nD) (k : Fin 8) : sProp 𝕄 := owns (c : Thread nD τ) (sbM k) fullShare (T m c k)
/-- Chunk `k` of device `c`'s result holding device `d`'s chunk. -/
def oOwn (c d : Dev nD) (k : Fin 8) : sProp 𝕄 := owns (c : Thread nD τ) (oM k) fullShare (T m d k)
/-- The chunks at whatever they hold. -/
def stAny (c : Dev nD) (k : Fin 8) : sProp 𝕄 := iprop(∃ Y, owns (c : Thread nD τ) (stM k) fullShare Y)
def sbAny (c : Dev nD) (k : Fin 8) : sProp 𝕄 := iprop(∃ Y, owns (c : Thread nD τ) (sbM k) fullShare Y)
def oAny (c : Dev nD) (k : Fin 8) : sProp 𝕄 := iprop(∃ Y, owns (c : Thread nD τ) (oM k) fullShare Y)

instance (c : Dev nD) (k : Fin 8) : BI.Storable (upEmb : UEmb _ 𝕄) (xOwn m c k) := by unfold xOwn; infer_instance
instance (c : Dev nD) (k : Fin 8) : BI.Storable (upEmb : UEmb _ 𝕄) (stOwn m c k) := by unfold stOwn; infer_instance
instance (c : Dev nD) (k : Fin 8) : BI.Storable (upEmb : UEmb _ 𝕄) (sbOwn m c k) := by unfold sbOwn; infer_instance
instance (c d : Dev nD) (k : Fin 8) : BI.Storable (upEmb : UEmb _ 𝕄) (oOwn m c d k) := by unfold oOwn; infer_instance
instance (c : Dev nD) (k : Fin 8) : BI.Storable (upEmb : UEmb _ 𝕄) (oAny (F := F) c k) := by unfold oAny; infer_instance

/-! ## The schedule -/

/-- A barrier duty hands over the payer's result, chunk by chunk, to be written; -/
def barPay (c : Dev nD) : sProp 𝕄 := bigSep Finset.univ fun k : Fin 8 => oAny (F := F) (peer c) k
/-- an input duty the staged chunk and the argument's chunk; -/
def inPay (c : Dev nD) (k : Fin 8) : sProp 𝕄 := iprop(stOwn m c k ∗ xOwn m c k)
/-- a departure duty the sent chunk and, when the copy is to the device itself, the result's chunk; -/
def outPay (c : Dev nD) (k : Fin 8) : sProp 𝕄 := if rem then sbOwn m c k else iprop(oOwn m c c k ∗ sbOwn m c k)
theorem outPay_true (c : Dev nD) (k : Fin 8) : outPay true m c k = sbOwn m c k := if_pos rfl
theorem outPay_false (c : Dev nD) (k : Fin 8) : outPay false m c k = iprop(oOwn m c c k ∗ sbOwn m c k) := if_neg Bool.false_ne_true
/-- an arrival duty the result's chunk. -/
def arrPay (c : Dev nD) (k : Fin 8) : sProp 𝕄 := oOwn m c (peer c) k

instance (c : Dev nD) : BI.Storable (upEmb : UEmb _ 𝕄) (barPay (F := F) c) := by unfold barPay; infer_instance
instance (c : Dev nD) (k : Fin 8) : BI.Storable (upEmb : UEmb _ 𝕄) (inPay m c k) := by unfold inPay; infer_instance
instance (c : Dev nD) (k : Fin 8) : BI.Storable (upEmb : UEmb _ 𝕄) (outPay rem m c k) := by unfold outPay; split <;> infer_instance
instance (c : Dev nD) (k : Fin 8) : BI.Storable (upEmb : UEmb _ 𝕄) (arrPay m c k) := by unfold arrPay; infer_instance

/-- The chunk a semaphore of the three arrays belongs to. -/
def kOf (q : DmaSem sig) : Fin 8 := ⟨(q.val + 7) % 8, Nat.mod_lt _ (by decide)⟩

/-- The payload of a semaphore's duty on device `c`. -/
def pay (c : Dev nD) : SemLoc sig → sProp 𝕄
  | .reg _ => barPay c
  | .dma q => if q.val < 9 then inPay m c (kOf q) else if q.val < 17 then outPay rem m c (kOf q) else arrPay m c (kOf q)
/-- Its amount. -/
def amt : SemLoc sig → ℕ
  | .reg _ => 1
  | .dma q => if q.val < 9 then Nin else Nout
/-- Whether a semaphore is one the device signals itself. -/
def isLocal : SemLoc sig → Bool
  | .reg _ => false
  | .dma q => q.val < 17

theorem amt_pos (s : SemLoc sig) : 0 < amt s := by
  cases s with
  | reg _ => exact Nat.one_pos
  | dma q => unfold amt; dsimp only; split; exacts [Nin_pos, Nout_pos]

/-- One round, one duty a cell; without an exchange the barrier and arrival cells have none. -/
def Rd : Rounds.Schedule (GSem nD τ sig) Unit 𝕄 where
  duties g r := if r = 0 ∧ (rem || isLocal g.2) = true then {()} else ∅
  unitless _ := False
  amount g _ _ := amt g.2
  payload g _ _ := pay rem m g.1.1 g.2
  amount_pos g _ _ _ := amt_pos g.2

instance Rd_payload_storable (g : GSem nD τ sig) (r : ℕ) (d : Unit) :
    BI.Storable (upEmb : UEmb _ 𝕄) ((Rd (F := F) rem m).payload g r d) := by
  show BI.Storable upEmb (pay rem m g.1.1 g.2)
  cases g.2 with
  | reg _ => unfold pay; infer_instance
  | dma q => unfold pay; dsimp only; (repeat' split) <;> infer_instance

theorem in_lt : ∀ k, (inS k).val < 9 := by decide
theorem out_ge : ∀ k, ¬ (outS k).val < 9 := by decide
theorem out_lt : ∀ k, (outS k).val < 17 := by decide
theorem arr_ge : ∀ k, ¬ (arrS k).val < 9 := by decide
theorem arr_ge' : ∀ k, ¬ (arrS k).val < 17 := by decide
theorem kOf_in : ∀ k, kOf (inS k) = k := by decide
theorem kOf_out : ∀ k, kOf (outS k) = k := by decide
theorem kOf_arr : ∀ k, kOf (arrS k) = k := by decide

section Tables
variable (c : Dev nD) (k : Fin 8)

theorem duties_local (t : Thread nD τ) (s : SemLoc sig) (h : isLocal s = true) : (Rd (F := F) rem m).duties (t, s) 0 = {()} :=
  if_pos ⟨rfl, by show (rem || isLocal s) = true; rw [h, Bool.or_true]⟩
theorem duties_rem (g : GSem nD τ sig) : (Rd (F := F) true m).duties g 0 = {()} :=
  show (if 0 = 0 ∧ (true || isLocal g.2) = true then {()} else ∅ : Finset Unit) = {()} from if_pos ⟨rfl, rfl⟩
theorem duties_later (g : GSem nD τ sig) : ∀ r, 1 ≤ r → (Rd (F := F) rem m).duties g r = ∅ := fun r hr => if_neg fun h => by omega
theorem duties_none (t : Thread nD τ) (s : SemLoc sig) (h : isLocal s = false) : ∀ r, (Rd (F := F) false m).duties (t, s) r = ∅ :=
  fun r => if_neg fun h' => by
    have : (false || isLocal s) = true := h'.2
    rw [h] at this; exact Bool.false_ne_true this
theorem local_in : isLocal (.dma (inS k)) = true := decide_eq_true ((in_lt k).trans (by decide))
theorem local_out : isLocal (.dma (outS k)) = true := decide_eq_true (out_lt k)
theorem local_arr : isLocal (.dma (arrS k)) = false := decide_eq_false (arr_ge' k)
theorem duties_in : (Rd (F := F) rem m).duties (inCell c k) 0 = {()} := duties_local rem m _ _ (local_in k)
theorem duties_out : (Rd (F := F) rem m).duties (outCell c k) 0 = {()} := duties_local rem m _ _ (local_out k)

theorem mem_in : () ∈ (Rd (F := F) rem m).duties (inCell c k) 0 := duties_in rem m c k ▸ Finset.mem_singleton_self _
theorem mem_out : () ∈ (Rd (F := F) rem m).duties (outCell c k) 0 := duties_out rem m c k ▸ Finset.mem_singleton_self _
theorem mem_rem (g : GSem nD τ sig) : () ∈ (Rd (F := F) true m).duties g 0 := duties_rem m g ▸ Finset.mem_singleton_self _

theorem amount_bar : (Rd (F := F) rem m).amount (barCell c) 0 () = 1 := rfl
theorem amount_in : (Rd (F := F) rem m).amount (inCell c k) 0 () = Nin := if_pos (in_lt k)
theorem amount_out : (Rd (F := F) rem m).amount (outCell c k) 0 () = Nout := if_neg (out_ge k)
theorem amount_arr : (Rd (F := F) rem m).amount (arrCell c k) 0 () = Nout := if_neg (arr_ge k)

theorem expect_of {g : GSem nD τ sig} (h : (Rd (F := F) rem m).duties g 0 = {()}) : (Rd (F := F) rem m).expect g 0 = (Rd (F := F) rem m).amount g 0 () := by
  unfold Schedule.expect Schedule.amountOf; rw [h, Finset.sum_singleton]

theorem payload_bar : (Rd (F := F) rem m).payload (barCell c) 0 () = barPay c := rfl
theorem payload_in : (Rd (F := F) rem m).payload (inCell c k) 0 () = inPay m c k :=
  (if_pos (in_lt k)).trans (by rw [kOf_in])
theorem payload_out : (Rd (F := F) rem m).payload (outCell c k) 0 () = outPay rem m c k :=
  (if_neg (out_ge k)).trans ((if_pos (out_lt k)).trans (by rw [kOf_out]))
theorem payload_arr : (Rd (F := F) rem m).payload (arrCell c k) 0 () = arrPay m c k :=
  (if_neg (arr_ge k)).trans ((if_neg (arr_ge' k)).trans (by rw [kOf_arr]))

theorem rest_of {g : GSem nD τ sig} (h : (Rd (F := F) rem m).duties g 0 = {()}) :
    bigSep ((Rd (F := F) rem m).duties g 0 \ ∅) (fun d => (Rd (F := F) rem m).payload g 0 d) = (Rd (F := F) rem m).payload g 0 () := by
  rw [Finset.sdiff_empty, h, bigSep_singleton]

end Tables

/-! ## What a device owes, and the levels -/

/-- The arrivals device `c` owes its peer for the chunks `ks`. -/
def oArr (c : Dev nD) : List (Fin 8) → CellTallies nD τ sig Unit
  | [] => 0
  | k :: ks => oArr c ks + tallyAt (arrCell (peer c) k) () Nout

/-- What a device owes at launch: with an exchange, every arrival and the barrier signal. -/
def O₀ (c : Dev nD) : CellTallies nD τ sig Unit := if rem then oArr c chunks + tallyAt (barCell (peer c)) () 1 else 0

def L (g : GSem nD τ sig) : Finset Unit := if g.1.2 = .tc then {()} else ∅
/-- Arrival cells at level 2, barrier cells at 1, the others at 0. -/
def lv (g : GSem nD τ sig) (_ : Unit) : ℕ := match g.2 with
  | .reg _ => 1
  | .dma q => if q.val < 17 then 0 else 2

theorem L_of_ne (g : GSem nD τ sig) (h : g.1.2 ≠ .tc) : L g = ∅ := if_neg h
theorem L_tc (c : Dev nD) (sm : SemLoc sig) : L ((c : Thread nD τ), sm) = {()} := if_pos rfl

theorem oArr_pos {c : Dev nD} {g : GSem nD τ sig} {u : Unit} : ∀ {ks : List (Fin 8)}, 0 < oArr c ks g u → ∃ k, g = arrCell (peer c) k
  | [], h => absurd h (Nat.lt_irrefl 0)
  | k :: ks, h => by
    unfold oArr at h
    rw [Pi.add_apply, Finsupp.add_apply, tallyAt_apply] at h
    by_cases hg : g = arrCell (peer c) k ∧ u = ()
    · exact ⟨k, hg.1⟩
    · rw [if_neg hg, Nat.add_zero] at h; exact oArr_pos h

theorem O₀_pos {c : Dev nD} {g : GSem nD τ sig} {u : Unit} (h : 0 < O₀ rem c g u) : (∃ k, g = arrCell (peer c) k) ∨ g = barCell (peer c) := by
  unfold O₀ at h
  cases rem with
  | false => exact absurd h (Nat.lt_irrefl 0)
  | true =>
    rw [if_pos rfl, Pi.add_apply, Finsupp.add_apply, tallyAt_apply] at h
    by_cases hg : g = barCell (peer c) ∧ u = ()
    · exact .inr hg.1
    · rw [if_neg hg, Nat.add_zero] at h; exact .inl (oArr_pos h)

theorem lv_arr (c : Dev nD) (k : Fin 8) (u : Unit) : lv (arrCell c k) u = 2 := if_neg (arr_ge' k)
theorem lv_low (c : Dev nD) (q : DmaSem sig) (h : q.val < 17) (u : Unit) : lv ((c : Thread nD τ), .dma q) u = 0 := if_pos h

/-- A device may wait on a semaphore below level `n` while all it owes is above. -/
theorem mayWait_of (n : ℕ) (c : Dev nD) (s : SemLoc sig) (hs : lv ((c : Thread nD τ), s) () ≤ n) (O : CellTallies nD τ sig Unit)
    (hO : ∀ g u, 0 < O g u → (∃ d s', g = (((d : Dev nD) : Thread nD τ), s')) ∧ n < lv g u) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by obtain ⟨⟨d, s', rfl⟩, -⟩ := hO g u hg; exact Finset.mem_singleton_self _)
    (fun p hp => by rw [Finset.mem_singleton.mp hp]; exact hs)
    (fun g u hg => (hO g u hg).2)

theorem mayWait_bar (c : Dev nD) (ks : List (Fin 8)) : (levAts L lv : sProp 𝕄) ⊢ MayWait (c : Thread nD τ) (.reg barS) () (oArr c ks) :=
  mayWait_of 1 c _ le_rfl _ fun g u h => by
    obtain ⟨k, rfl⟩ := oArr_pos h
    exact ⟨⟨_, _, rfl⟩, by rw [lv_arr]; decide⟩

theorem mayWait_arr (c : Dev nD) (q : DmaSem sig) (h : q.val < 17) (ks : List (Fin 8)) :
    (levAts L lv : sProp 𝕄) ⊢ MayWait (c : Thread nD τ) (.dma q) () (oArr c ks) :=
  mayWait_of 0 c _ (lv_low c q h ()).le _ fun g u h => by
    obtain ⟨k, rfl⟩ := oArr_pos h
    exact ⟨⟨_, _, rfl⟩, by rw [lv_arr]; decide⟩

theorem mayWait_O₀ (c : Dev nD) (q : DmaSem sig) (h : q.val < 17) : (levAts L lv : sProp 𝕄) ⊢ MayWait (c : Thread nD τ) (.dma q) () (O₀ rem c) :=
  mayWait_of 0 c _ (lv_low c q h ()).le _ fun g u h => by
    rcases O₀_pos rem h with ⟨k, rfl⟩ | rfl
    · exact ⟨⟨_, _, rfl⟩, by rw [lv_arr]; decide⟩
    · exact ⟨⟨_, _, rfl⟩, Nat.one_pos⟩

end Cert.Permute

end
-- ==== Proof.Body.lean ====
/-
# The body, step by step

Each step of `Chunks` is run once, for a device and a chunk, from what the protocol gives it; `wp_chunks` then runs a
step over the list of chunks.
-/
module

public import proofs.«01_k».proof.Proof.Schedule
public import Idealize.ShloMosaic.Lib.Pipeline.Value

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (rem : Bool) (m : (ℓ : Loc nD τ sig) → Buf (Elt F) ℓ)

abbrev 𝒱₀ : Variants := Variants.none

/-- Device `c` runs `p` to its end, where `Q` holds. -/
abbrev runs (c : Dev nD) (p : Pg F) (Q : PUnit → sProp 𝕄) : sProp 𝕄 :=
  wp frame (wpE (defs₀ (F := F)) 𝒱₀ (c : Thread nD τ) none) Set.univ p Q

/-- A cell under the protocol, its round 0 open. -/
def known (g : GSem nD τ sig) : sProp 𝕄 := iprop((∃ κ : ℕ, cellInv ER (Rd rem m) κ g) ∗ reached ER g 0)

instance known_persistent (g : GSem nD τ sig) : BI.Persistent (known rem m g) := by unfold known; infer_instance

/-- What a device owes, whatever it has waited for. -/
def owesE (c : Dev nD) (O : CellTallies nD τ sig Unit) : sProp 𝕄 := iprop(∃ W : Waits sig Unit, owes (c : Thread nD τ) O W)

/-! ## Waits -/

/-- A wait for a cell's one duty: its payload is handed over and the cell, done with, is closed. -/
theorem wp_wait_close {c : Dev nD} {w : TpuEff nD τ sig (Elt F) Λ₀ .tc PUnit} {s : SemLoc sig} {N : ℕ}
    (hw : ∀ K : PUnit → sProp 𝕄, wpE (defs₀ (F := F)) 𝒱₀ (c : Thread nD τ) none Set.univ w K = waitSpec (c : Thread nD τ) Set.univ s N K)
    (hd : (Rd (F := F) rem m).duties ((c : Thread nD τ), s) 0 = {()}) (hN : (Rd (F := F) rem m).amount ((c : Thread nD τ), s) 0 () = N)
    (O : CellTallies nD τ sig Unit) {P : sProp 𝕄} (hP : (Rd (F := F) rem m).payload ((c : Thread nD τ), s) 0 () = P)
    {k : PUnit → Pg F} {Q : PUnit → sProp 𝕄} :
    iprop(known rem m ((c : Thread nD τ), s) ∗ cred (tallyAt ((c : Thread nD τ), s) () N) ∗ owesE c O ∗ MayWait (c : Thread nD τ) s () O
        ∗ atPos ER ((c : Thread nD τ), s) 0 ∅ 0)
      ⊢ iprop(((owesE c O ∗ semVal ((c : Thread nD τ), s) 0 ∗ P) -∗ runs c (k ⟨⟩) Q) -∗ runs c (.op w k) Q) := by
  unfold known owesE
  iintro ⟨⟨⟨%κ, #HI⟩, -⟩, Hc, ⟨%W, HO⟩, HM, Hat⟩ Hk
  iapply (Rounds.wp_wait_rest_token 𝒱₀ ER (Rd rem m) (c : Thread nD τ) none (κ := κ) hw (Set.mem_univ _) () (O := O) (W := W) (R := 0) (m := 0) (T := ∅)
    (by rw [Nat.zero_add, expect_of rem m hd, hN])) $$ [Hc HO HM Hat]
  · isplitr; · iexact HI
    isplitl [Hc]; · iexact Hc
    isplitl [HO]; · iexact HO
    isplitl [HM] <;> iassumption
  iintro ⟨HO, Hat, -, Hpay⟩
  ihave Hp := (Entails.of_eq ((rest_of rem m hd).trans hP)) $$ Hpay
  imod (Rounds.cell_close ER (Rd rem m) (Set.mem_univ κ) (fun h => h) (R := 0 + 1) (duties_later rem m ((c : Thread nD τ), s))) $$ [Hat] with Hz
  · isplitr; · iexact HI
    iexact Hat
  iapply Hk
  isplitl [HO]; · iexists _; iexact HO
  isplitl [Hz] <;> iassumption

/-- The same for a wait for a transfer. -/
theorem wp_wait_dma {c : Dev nD} {q : DmaSem sig} {sp sp' : Space} {s : Shape} {e : EltTy} {a : Memref sig .tc sp s e} {b : Memref sig .tc sp' s e}
    {ha : a.view.WordExact} {hb : b.view.WordExact} {N : ℕ} (hb' : b.view.dmaCredit = N)
    (hd : (Rd (F := F) rem m).duties ((c : Thread nD τ), .dma q) 0 = {()}) (hN : (Rd (F := F) rem m).amount ((c : Thread nD τ), .dma q) 0 () = N)
    (O : CellTallies nD τ sig Unit) {P : sProp 𝕄} (hP : (Rd (F := F) rem m).payload ((c : Thread nD τ), .dma q) 0 () = P)
    {k : PUnit → Pg F} {Q : PUnit → sProp 𝕄} :
    iprop(known rem m ((c : Thread nD τ), .dma q) ∗ cred (tallyAt ((c : Thread nD τ), .dma q) () N) ∗ owesE c O ∗ MayWait (c : Thread nD τ) (.dma q) () O
        ∗ atPos ER ((c : Thread nD τ), .dma q) 0 ∅ 0)
      ⊢ iprop(((owesE c O ∗ semVal ((c : Thread nD τ), .dma q) 0 ∗ P) -∗ runs c (k ⟨⟩) Q) -∗ runs c (.op (.waitDma2 q a b ha hb) k) Q) := by
  subst hb'
  exact wp_wait_close rem m (wpE_waitDma2_eq 𝒱₀ (c : Thread nD τ) none Set.univ) hd hN O hP

/-- A buffer's elements under a view are owned at what the view reads. -/
theorem owns_of {c : Dev nD} {sp : Space} {s : Shape} {e : EltTy} (a : Memref sig .tc sp s e) (f : a.view.ty.Contents (Elt F)) {Y : s.Idx → Elt F e}
    (h : a.view.read (Elt F) f = Y) : (a.view.loc (c : Thread nD τ) ↦[a.view.set]{fullShare} f : sProp 𝕄) ⊢ owns (c : Thread nD τ) a fullShare Y := by
  subst h; exact owns_intro _ _ _ _

/-! ## The steps of a chunk -/

section Steps
variable (c : Dev nD) (k : Fin 8) {K : Pg F}

/-- What the copy into the staging buffer needs of chunk `k`, -/
def inPre : sProp 𝕄 := iprop(xOwn m c k ∗ stAny c k ∗ dutyTok ER (inCell c k) 0 ())

/-- Copying a chunk in leaves the credit for waiting for it. -/
theorem step_in {Q : PUnit → sProp 𝕄} :
    iprop(known rem m (inCell c k) ∗ inPre m c k) ⊢ iprop((cred (tallyAt (inCell c k) () Nin) -∗ runs c K Q) -∗ runs c (pIn k K) Q) := by
  unfold known inPre xOwn stAny owns pIn
  iintro ⟨⟨⟨%κ, #HI⟩, #HR⟩, ⟨%fx, %hx, Hx⟩, ⟨%Y, %fs, %hs, Hs⟩, Ht⟩ Hk
  have hpay : iprop(((stM k).view.loc (c : Thread nD τ) ↦[(stM k).view.set]{fullShare} ((stM k).view.write (Elt F) fs ((xM k).view.read (Elt F) fx) Finset.univ))
      ∗ ((xM k).view.loc (c : Thread nD τ) ↦[(xM k).view.set]{fullShare} fx)) ⊢ (Rd rem m).payload (inCell c k) 0 () := by
    rw [payload_in]; unfold inPay stOwn xOwn
    iintro ⟨Hs, Hx⟩
    isplitl [Hs]
    · iapply (owns_of (stM k) _ ((View.read_write_univ _ _).trans hx)); iexact Hs
    · iapply (owns_of (xM k) fx hx); iexact Hx
  iapply (Rounds.wp_copy_pointsTo 𝒱₀ ER (Rd rem m) (c : Thread nD τ) none (κ := κ) (src := xM k) (dst := stM k) (sem := .dma (inS k)) (fs := fx) (fd := fs) (r := 0) (d := ())
    (mem_in rem m c k) () Nin (credit_st k) (amount_in rem m c k)
    hpay) $$ [Hx Hs Ht]
  · isplitr; · iexact HI
    isplitl [Hx]; · iexact Hx
    isplitl [Hs]; · iexact Hs
    isplitl [Ht]; · iexact Ht
    iexact HR
  iexact Hk

/-- what narrowing it needs, -/
def narrowPre : sProp 𝕄 := iprop(cred (tallyAt (inCell c k) () Nin) ∗ atPos ER (inCell c k) 0 ∅ 0 ∗ sbAny c k)
/-- and what it leaves. -/
def narrowPost : sProp 𝕄 := iprop(semVal (inCell c k) 0 ∗ xOwn m c k ∗ stOwn m c k)

/-- The elements of a slot, with its unit axis and without. -/
theorem set_st : (stM k).view.set = (stW.access (rS k)).set := View.set_reshape _ _
theorem set_sb : (sbM k).view.set = (sbW.access (rS k)).set := View.set_reshape _ _

/-- What the store of a narrowed chunk leaves to be read. -/
theorem read_narrow (f : sbW.view.ty.Contents (Elt F)) (g : stW.view.ty.Contents (Elt F)) :
    (sbM k).view.read (Elt F) ((sbW.access (rS k)).write (Elt F) f (narrow ((stW.access (rS k)).read (Elt F) g)) Finset.univ)
      = truncf .bf16 ((stM k).view.read (Elt F) g) bitsLt_bf16_f32 := by
  funext j
  have h := congrFun (View.read_write_univ (Val := Elt F) (v := sbW.access (rS k)) f (narrow ((stW.access (rS k)).read (Elt F) g)))
    (Shape.reshapeEquiv squeezes_S1x256x1024_S256x1024.numel_eq j)
  refine h.trans ?_
  unfold narrow
  show (shapeCast S256x1024 (shapeCast S1x256x1024 (truncf .bf16 ((stM k).view.read (Elt F) g) bitsLt_bf16_f32) shapeCasts_S256x1024_S1x256x1024)
    shapeCasts_S1x256x1024_S256x1024) j = _
  rw [shapeCast_shapeCast]

theorem step_narrow (ks : List (Fin 8)) {Q : PUnit → sProp 𝕄} :
    iprop(known rem m (inCell c k) ∗ levAts L lv ∗ owesE c (oArr c ks) ∗ narrowPre c k)
      ⊢ iprop((owesE c (oArr c ks) ∗ sbOwn m c k ∗ narrowPost m c k -∗ runs c K Q) -∗ runs c (pNarrow k K) Q) := by
  unfold narrowPre narrowPost pNarrow
  iintro ⟨#HI, #HL, HO, Hc, Hat, Hsb⟩ Hk
  iapply (wp_wait_dma rem m (credit_st k) (duties_in rem m c k) (amount_in rem m c k) (oArr c ks)
    (payload_in rem m c k)) $$ [HO Hc Hat]
  · isplitr; · iexact HI
    isplitl [Hc]; · iexact Hc
    isplitl [HO]; · iexact HO
    isplitr; · iapply (mayWait_arr c (inS k) ((in_lt k).trans (by decide)) ks); iexact HL
    iexact Hat
  unfold inPay stOwn sbAny owns
  iintro ⟨HO, Hz, ⟨%g, %hg, Hst⟩, Hx⟩
  icases Hsb with ⟨%Y, %f, %hf, Hsb⟩
  iapply (wp_load_rect 𝒱₀ (c : Thread nD τ) none Set.univ (m := stW) (r := rS k) (S := (stM k).view.set) (set_st k).ge) $$ Hst
  iintro Hst
  iapply (wp_load_rect 𝒱₀ (c : Thread nD τ) none Set.univ (m := sbW) (r := rS k) (S := (sbM k).view.set) (set_sb k).ge) $$ Hsb
  iintro Hsb
  iapply (wp_store 𝒱₀ (c : Thread nD τ) none Set.univ (m := sbW) (r := rS k) (Mk := Finset.univ) (S := (sbM k).view.set)
    ((View.setOn_univ _).trans (set_sb k).symm).le) $$ Hsb
  iintro Hsb
  iapply Hk
  isplitl [HO]; · iexact HO
  isplitl [Hsb]
  · unfold sbOwn owns
    iexists _
    isplitr; swap; · iexact Hsb
    ipureintro
    exact (read_narrow k f g).trans (by rw [hg]; rfl)
  isplitl [Hz]; · iexact Hz
  isplitl [Hx]; · iexact Hx
  iexists g
  isplitr; · ipureintro; exact hg
  iexact Hst

/-- What sending chunk `k` needs, -/
def sendPre : sProp 𝕄 :=
  iprop(narrowPre c k ∗ oAny (peer c) k ∗ dutyTok ER (outCell c k) 0 () ∗ dutyTok ER (arrCell (peer c) k) 0 ())
/-- and what it leaves. -/
def sendPost : sProp 𝕄 := iprop(narrowPost m c k ∗ cred (tallyAt (outCell c k) () Nout))

theorem step_send (n : Dev nD) (hn : n = peer c) (ks : List (Fin 8)) {Q : PUnit → sProp 𝕄} :
    iprop((known true m (inCell c k) ∗ known true m (outCell c k) ∗ known true m (arrCell (peer c) k) ∗ levAts L lv)
        ∗ owesE c (oArr c (k :: ks)) ∗ sendPre c k)
      ⊢ iprop((owesE c (oArr c ks) ∗ sendPost m c k -∗ runs c K Q) -∗ runs c (pSend n k K) Q) := by
  subst hn
  unfold sendPre sendPost pSend
  iintro ⟨⟨#HI, #HO, #HA, #HL⟩, Ho, Hn, Hd, Ht, Hta⟩ Hk
  iapply (step_narrow true m c k (k :: ks)) $$ [Ho Hn]
  · isplitr; · iexact HI
    isplitr; · iexact HL
    isplitl [Ho] <;> iassumption
  iintro ⟨Ho, Hsb, Hn⟩
  unfold owesE known sbOwn oAny owns
  icases Ho with ⟨%W, Ho⟩
  icases HO with ⟨⟨%κ₁, #HIo⟩, #HRo⟩
  icases HA with ⟨⟨%κ₂, #HIa⟩, #HRa⟩
  icases Hsb with ⟨%fs, %hs, Hsb⟩
  icases Hd with ⟨%Y, %fd, %hd, Hd⟩
  have hpay₁ : ((sbM k).view.loc (c : Thread nD τ) ↦[(sbM k).view.set]{fullShare} fs : sProp 𝕄) ⊢ (Rd true m).payload (outCell c k) 0 () := by
    rw [payload_out]; exact owns_of (sbM k) fs hs
  have hpay₂ : ((oM k).view.loc (peer c : Thread nD τ) ↦[(oM k).view.set]{fullShare} ((oM k).view.write (Elt F) fd ((sbM k).view.read (Elt F) fs) Finset.univ) : sProp 𝕄)
      ⊢ (Rd true m).payload (arrCell (peer c) k) 0 () := by
    rw [payload_arr]; unfold arrPay oOwn; rw [peer_peer]
    exact owns_of (oM k) _ ((View.read_write_univ _ _).trans hs)
  iapply (Rounds.wp_send_pointsTo 𝒱₀ ER (Rd true m) (c : Thread nD τ) none (c' := (peer c : Thread nD τ)) (src := sbM k) (dst := oM k)
    (sS := .dma (outS k)) (sem := .dma (arrS k)) (κ₁ := κ₁) (κ₂ := κ₂) (fs := fs) (fd := fd) (r₁ := 0) (r₂ := 0) (d₁ := ()) (d₂ := ())
    (mem_out true m c k) (mem_rem m _) () () Nout (credit_o k) (amount_out true m c k) (amount_arr true m (peer c) k) (oArr c ks) rfl (W := W)
    hpay₁ hpay₂) $$ [Hsb Hd Ho Ht Hta]
  · isplitr; · iexact HIo
    isplitr; · iexact HIa
    isplitl [Hsb]; · iexact Hsb
    isplitl [Hd]; · iexact Hd
    isplitl [Ho]; · iexact Ho
    isplitl [Ht]; · iexact Ht
    isplitr; · iexact HRo
    isplitl [Hta]; · iexact Hta
    iexact HRa
  iintro ⟨Hc, Ho⟩
  iapply Hk
  isplitl [Ho]; · iexists W; iexact Ho
  isplitl [Hn] <;> iassumption

/-- What waiting for the transfers of chunk `k` needs, -/
def meetPre : sProp 𝕄 :=
  iprop(cred (tallyAt (outCell c k) () Nout) ∗ cred (tallyAt (arrCell c k) () Nout) ∗ atPos ER (outCell c k) 0 ∅ 0 ∗ atPos ER (arrCell c k) 0 ∅ 0)
/-- and what it leaves. -/
def meetPost : sProp 𝕄 := iprop(sbOwn m c k ∗ oOwn m c (peer c) k ∗ semVal (outCell c k) 0 ∗ semVal (arrCell c k) 0)

theorem step_meet {Q : PUnit → sProp 𝕄} :
    iprop((known true m (outCell c k) ∗ known true m (arrCell c k)) ∗ owesE c 0 ∗ meetPre c k)
      ⊢ iprop((owesE c 0 ∗ meetPost m c k -∗ runs c K Q) -∗ runs c (pMeet k K) Q) := by
  unfold meetPre meetPost pMeet
  iintro ⟨⟨#HO, #HA⟩, Ho, Hc, Hca, Hat, Haa⟩ Hk
  iapply (wp_wait_dma true m (credit_sb k) (duties_out true m c k) (amount_out true m c k) 0 ((payload_out true m c k).trans (outPay_true m c k))) $$ [Ho Hc Hat]
  · isplitr; · iexact HO
    isplitl [Hc]; · iexact Hc
    isplitl [Ho]; · iexact Ho
    isplitr; · rw [MayWait_zero]; iempintro
    iexact Hat
  iintro ⟨Ho, Hz, Hsb⟩
  iapply (wp_wait_dma true m (credit_o k) (duties_rem m (arrCell c k)) (amount_arr true m c k) 0 ((payload_arr true m c k).trans (show _ = oOwn m c (peer c) k from rfl))) $$ [Ho Hca Haa]
  · isplitr; · iexact HA
    isplitl [Hca]; · iexact Hca
    isplitl [Ho]; · iexact Ho
    isplitr; · rw [MayWait_zero]; iempintro
    iexact Haa
  iintro ⟨Ho, Hza, Hd⟩
  iapply Hk
  isplitl [Ho]; · iexact Ho
  isplitl [Hsb]; · iexact Hsb
  isplitl [Hd]; · iexact Hd
  isplitl [Hz] <;> iassumption

/-- What copying chunk `k` to the device's own result needs. -/
def keepPre : sProp 𝕄 := iprop(narrowPre c k ∗ oAny c k ∗ dutyTok ER (outCell c k) 0 ())

theorem step_keep {Q : PUnit → sProp 𝕄} :
    iprop((known false m (inCell c k) ∗ known false m (outCell c k) ∗ levAts L lv) ∗ owesE c 0 ∗ keepPre c k)
      ⊢ iprop((owesE c 0 ∗ sendPost m c k -∗ runs c K Q) -∗ runs c (pKeep k K) Q) := by
  rw [show (owesE c 0 : sProp 𝕄) = owesE c (oArr c []) from rfl]
  unfold keepPre sendPost pKeep
  iintro ⟨⟨#HI, #HO, #HL⟩, Ho, Hn, Hd, Ht⟩ Hk
  iapply (step_narrow false m c k []) $$ [Ho Hn]
  · isplitr; · iexact HI
    isplitr; · iexact HL
    isplitl [Ho] <;> iassumption
  iintro ⟨Ho, Hsb, Hn⟩
  unfold known sbOwn oAny owns
  icases HO with ⟨⟨%κ, #HIo⟩, #HRo⟩
  icases Hsb with ⟨%fs, %hs, Hsb⟩
  icases Hd with ⟨%Y, %fd, %hd, Hd⟩
  have hpay : iprop(((oM k).view.loc (c : Thread nD τ) ↦[(oM k).view.set]{fullShare} ((oM k).view.write (Elt F) fd ((sbM k).view.read (Elt F) fs) Finset.univ))
      ∗ ((sbM k).view.loc (c : Thread nD τ) ↦[(sbM k).view.set]{fullShare} fs)) ⊢ (Rd false m).payload (outCell c k) 0 () := by
    rw [payload_out, outPay_false]; unfold oOwn sbOwn
    iintro ⟨Hd, Hs⟩
    isplitl [Hd]
    · iapply (owns_of (oM k) _ ((View.read_write_univ _ _).trans hs)); iexact Hd
    · iapply (owns_of (sbM k) fs hs); iexact Hs
  iapply (Rounds.wp_copy_pointsTo 𝒱₀ ER (Rd false m) (c : Thread nD τ) none (κ := κ) (src := sbM k) (dst := oM k) (sem := .dma (outS k)) (fs := fs) (fd := fd) (r := 0) (d := ())
    (mem_out false m c k) () Nout (credit_o k) (amount_out false m c k) hpay) $$ [Hsb Hd Ht]
  · isplitr; · iexact HIo
    isplitl [Hsb]; · iexact Hsb
    isplitl [Hd]; · iexact Hd
    isplitl [Ht]; · iexact Ht
    iexact HRo
  iintro Hc
  iapply Hk
  isplitl [Ho]; · iexact Ho
  isplitl [Hn] <;> iassumption

/-- What waiting for that copy needs, -/
def keptPre : sProp 𝕄 := iprop(cred (tallyAt (outCell c k) () Nout) ∗ atPos ER (outCell c k) 0 ∅ 0)
/-- and what it leaves. -/
def keptPost : sProp 𝕄 := iprop(semVal (outCell c k) 0 ∗ oOwn m c c k ∗ sbOwn m c k)

theorem step_kept {Q : PUnit → sProp 𝕄} :
    iprop(known false m (outCell c k) ∗ owesE c 0 ∗ keptPre c k)
      ⊢ iprop((owesE c 0 ∗ keptPost m c k -∗ runs c K Q) -∗ runs c (pKept k K) Q) := by
  unfold keptPre keptPost pKept
  iintro ⟨#HO, Ho, Hc, Hat⟩ Hk
  iapply (wp_wait_dma false m (credit_o k) (duties_out false m c k) (amount_out false m c k) 0 ((payload_out false m c k).trans (outPay_false m c k))) $$ [Ho Hc Hat]
  · isplitr; · iexact HO
    isplitl [Hc]; · iexact Hc
    isplitl [Ho]; · iexact Ho
    isplitr; · rw [MayWait_zero]; iempintro
    iexact Hat
  iintro H
  iapply Hk
  iexact H

end Steps

/-! ## Loops over the chunks -/

/-- A step run for every chunk of a list, from what each needs, gives what each leaves; `A` follows the list. -/
theorem wp_list {c : Dev nD} {R : sProp 𝕄} [BI.Persistent R] {A : List (Fin 8) → sProp 𝕄} {P P' : Fin 8 → sProp 𝕄} {body : Fin 8 → Pg F → Pg F}
    {Q : PUnit → sProp 𝕄} (h : ∀ k ks K, iprop(R ∗ A (k :: ks) ∗ P k) ⊢ iprop((A ks ∗ P' k -∗ runs c K Q) -∗ runs c (body k K) Q)) (K : Pg F) :
    ∀ ks, iprop(R ∗ A ks ∗ bigSepL ks P) ⊢ iprop((A [] ∗ bigSepL ks P' -∗ runs c K Q) -∗ runs c (ks.foldr body K) Q)
  | [] => by
    iintro ⟨-, HA, HP⟩ Hk
    iapply Hk
    isplitl [HA]; · iexact HA
    iexact HP
  | k :: ks => by
    rw [bigSepL_cons', bigSepL_cons']
    iintro ⟨#HR, HA, HP, HPs⟩ Hk
    iapply (h k ks (ks.foldr body K)) $$ [HA HP]
    · isplitr; · iexact HR
      isplitl [HA] <;> iassumption
    iintro ⟨HA, HP'⟩
    iapply (wp_list h K ks) $$ [HA HPs]
    · isplitr; · iexact HR
      isplitl [HA] <;> iassumption
    iintro ⟨HA, HPs⟩
    iapply Hk
    isplitl [HA]; · iexact HA
    isplitl [HP'] <;> iassumption

theorem bigSep_chunks (Φ : Fin 8 → sProp 𝕄) : bigSep Finset.univ Φ = bigSepL chunks Φ := bigSep_univ_eq_bigSepL chunks (by decide) (by decide) Φ

/-- The same over all eight chunks. -/
theorem wp_chunks {c : Dev nD} {R : sProp 𝕄} [BI.Persistent R] (A : List (Fin 8) → sProp 𝕄) {P P' : Fin 8 → sProp 𝕄} {body : Fin 8 → Pg F → Pg F}
    {Q : PUnit → sProp 𝕄} (h : ∀ k ks K, iprop(R ∗ A (k :: ks) ∗ P k) ⊢ iprop((A ks ∗ P' k -∗ runs c K Q) -∗ runs c (body k K) Q)) (K : Pg F) :
    iprop(R ∗ A chunks ∗ bigSep Finset.univ P) ⊢ iprop((A [] ∗ bigSep Finset.univ P' -∗ runs c K Q) -∗ runs c (chunks.foldr body K) Q) := by
  rw [bigSep_chunks, bigSep_chunks]; exact wp_list h K chunks

end Cert.Permute

end
-- ==== Proof.Whole.lean ====
/-
# The whole body

The loops of the two ways through the kernel put together: the exchange (`wp_swap`) and the copy (`wp_keep`), each
from a device's share of the protocol at launch (`begins`) to what it holds when done (`ends`). `wp_body` is the
body on a device whose word of the table is the one expected.
-/
module

public import proofs.«01_k».proof.Proof.Body

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (rem : Bool) (m : (ℓ : Loc nD τ sig) → Buf (Elt F) ℓ)

/-! ## A device's cells, counted -/

/-- The semaphores of the protocol: the barrier, then the input, departure and arrival semaphores of the chunks. -/
def ksem (j : Fin 25) : SemLoc sig := if j = 0 then .reg barS else .dma ⟨j.val, j.isLt⟩
abbrev kcell (ck : Dev nD × Fin 25) : GSem nD τ sig := ((ck.1 : Thread nD τ), ksem ck.2)
def jIn (k : Fin 8) : Fin 25 := ⟨1 + k.val, by omega⟩
def jOut (k : Fin 8) : Fin 25 := ⟨9 + k.val, by omega⟩
def jArr (k : Fin 8) : Fin 25 := ⟨17 + k.val, by omega⟩

theorem ksem_in : ∀ k, ksem (jIn k) = .dma (inS k) := by decide
theorem ksem_out : ∀ k, ksem (jOut k) = .dma (outS k) := by decide
theorem ksem_arr : ∀ k, ksem (jArr k) = .dma (arrS k) := by decide

/-- An assertion for every cell of a device. -/
def cells (c : Dev nD) (Φ : GSem nD τ sig → sProp 𝕄) : sProp 𝕄 :=
  iprop(Φ (barCell c) ∗ (bigSep Finset.univ fun k => Φ (inCell c k)) ∗ (bigSep Finset.univ fun k => Φ (outCell c k))
    ∗ bigSep Finset.univ fun k => Φ (arrCell c k))

theorem cells_eq (c : Dev nD) (Φ : GSem nD τ sig → sProp 𝕄) : bigSep Finset.univ (fun j : Fin 25 => Φ (kcell (c, j))) = cells c Φ := by
  rw [bigSep_univ_eq_bigSepL (0 :: (chunks.map jIn ++ (chunks.map jOut ++ chunks.map jArr))) (by decide) (by decide),
    bigSepL_cons', bigSepL_append, bigSepL_append, bigSepL_map, bigSepL_map, bigSepL_map]
  show iprop(Φ (barCell c) ∗ (bigSepL chunks fun k => Φ ((c : Thread nD τ), ksem (jIn k))) ∗ (bigSepL chunks fun k => Φ ((c : Thread nD τ), ksem (jOut k)))
    ∗ bigSepL chunks fun k => Φ ((c : Thread nD τ), ksem (jArr k))) = _
  simp only [ksem_in, ksem_out, ksem_arr]
  rw [← bigSep_chunks, ← bigSep_chunks, ← bigSep_chunks]
  rfl

/-- Every cell under the protocol. -/
def records : sProp 𝕄 := bigSep Finset.univ fun ck : Dev nD × Fin 25 => known rem m (kcell ck)

instance records_persistent : BI.Persistent (records rem m) := by unfold records; infer_instance

theorem known_at (c : Dev nD) (j : Fin 25) {s : SemLoc sig} (h : ksem j = s) : records rem m ⊢ known rem m ((c : Thread nD τ), s) := by
  subst h; exact bigSep_elim (Finset.mem_univ (c, j))
theorem known_bar (c : Dev nD) : records rem m ⊢ known rem m (barCell c) := known_at rem m c 0 rfl
theorem known_in (c : Dev nD) (k : Fin 8) : records rem m ⊢ known rem m (inCell c k) := known_at rem m c _ (ksem_in k)
theorem known_out (c : Dev nD) (k : Fin 8) : records rem m ⊢ known rem m (outCell c k) := known_at rem m c _ (ksem_out k)
theorem known_arr (c : Dev nD) (k : Fin 8) : records rem m ⊢ known rem m (arrCell c k) := known_at rem m c _ (ksem_arr k)

/-! ## What a device starts from and ends with -/

/-- The tokens of the duties a device pays: its own input and departure duties, its peer's barrier and arrival duties. -/
def toks (c : Dev nD) : sProp 𝕄 :=
  iprop(dutyTok ER (barCell (peer c)) 0 () ∗ (bigSep Finset.univ fun k => dutyTok ER (inCell c k) 0 ())
    ∗ (bigSep Finset.univ fun k => dutyTok ER (outCell c k) 0 ()) ∗ bigSep Finset.univ fun k => dutyTok ER (arrCell (peer c) k) 0 ())

/-- What its peer owes it. -/
def credits (c : Dev nD) : sProp 𝕄 :=
  if rem then iprop(cred (tallyAt (barCell c) () 1) ∗ bigSep Finset.univ fun k => cred (tallyAt (arrCell c k) () Nout)) else iprop(emp)

/-- The buffers at the start, chunk by chunk. -/
def bufs (c : Dev nD) : sProp 𝕄 :=
  iprop((bigSep Finset.univ fun k => xOwn m c k) ∗ (bigSep Finset.univ fun k => stAny (F := F) c k) ∗ (bigSep Finset.univ fun k => sbAny (F := F) c k)
    ∗ bigSep Finset.univ fun k => oAny (F := F) c k)

/-- The same at the end: the result holds the source device's chunks. -/
def bufsEnd (c : Dev nD) : sProp 𝕄 :=
  iprop((bigSep Finset.univ fun k => xOwn m c k) ∗ (bigSep Finset.univ fun k => stOwn m c k) ∗ (bigSep Finset.univ fun k => sbOwn m c k)
    ∗ bigSep Finset.univ fun k => oOwn m c (src rem c) k)

def begins (c : Dev nD) : sProp 𝕄 :=
  iprop(owesE c (O₀ rem c) ∗ bufs m c ∗ toks c ∗ cells c (fun g => atPos ER g 0 ∅ 0) ∗ credits rem c)
def ends (c : Dev nD) : sProp 𝕄 := iprop(owesE c 0 ∗ bufsEnd rem m c ∗ cells c (fun g => semVal g 0))

/-! ## The loops -/

section Loops
variable (c : Dev nD) (K : Pg F)

theorem wp_ins {Q : PUnit → sProp 𝕄} :
    iprop(records rem m ∗ (bigSep Finset.univ fun k => xOwn m c k) ∗ (bigSep Finset.univ fun k => stAny (F := F) c k)
        ∗ bigSep Finset.univ fun k => dutyTok ER (inCell c k) 0 ())
      ⊢ iprop(((bigSep Finset.univ fun k => cred (tallyAt (inCell c k) () Nin)) -∗ runs c K Q) -∗ runs c (chunks.foldr pIn K) Q) := by
  iintro ⟨#HR, Hx, Hs, Ht⟩ Hk
  iapply (wp_chunks (R := records rem m) (fun _ => iprop(emp)) (P := inPre m c) (P' := fun k => cred (tallyAt (inCell c k) () Nin)) (body := pIn) (fun k ks K => by
    iintro ⟨#HR, -, HP⟩ Hk
    iapply (step_in rem m c k) $$ [HP]
    · isplitr; · iapply (known_in rem m c k); iexact HR
      iexact HP
    iintro Hc
    iapply Hk
    isplitr; · iempintro
    iexact Hc) K) $$ [Hx Hs Ht]
  · isplitr; · iexact HR
    isplitr; · iempintro
    unfold inPre; simp only [bigSep_sep']
    isplitl [Hx]; · iexact Hx
    isplitl [Hs] <;> iassumption
  iintro ⟨-, Hc⟩
  iapply Hk
  iexact Hc

theorem wp_sends (n : Dev nD) (hn : n = peer c) {Q : PUnit → sProp 𝕄} :
    iprop((records true m ∗ levAts L lv) ∗ owesE c (oArr c chunks) ∗ bigSep Finset.univ (sendPre c))
      ⊢ iprop((owesE c 0 ∗ bigSep Finset.univ (sendPost m c) -∗ runs c K Q) -∗ runs c (chunks.foldr (pSend n) K) Q) :=
  wp_chunks (R := iprop(records true m ∗ levAts L lv)) (fun ks => owesE c (oArr c ks)) (fun k ks K => by
    iintro ⟨⟨#HR, #HL⟩, HO, HP⟩ Hk
    iapply (step_send m c k n hn ks) $$ [HO HP]
    · isplitr
      · isplitr; · iapply (known_in true m c k); iexact HR
        isplitr; · iapply (known_out true m c k); iexact HR
        isplitr; · iapply (known_arr true m (peer c) k); iexact HR
        iexact HL
      isplitl [HO] <;> iassumption
    iexact Hk) K

theorem wp_meets {Q : PUnit → sProp 𝕄} :
    iprop(records true m ∗ owesE c 0 ∗ bigSep Finset.univ (meetPre c))
      ⊢ iprop((owesE c 0 ∗ bigSep Finset.univ (meetPost m c) -∗ runs c K Q) -∗ runs c (chunks.foldr pMeet K) Q) :=
  wp_chunks (R := records true m) (fun _ => owesE c 0) (fun k ks K => by
    iintro ⟨#HR, HO, HP⟩ Hk
    iapply (step_meet m c k) $$ [HO HP]
    · isplitr
      · isplitr; · iapply (known_out true m c k); iexact HR
        iapply (known_arr true m c k); iexact HR
      isplitl [HO] <;> iassumption
    iexact Hk) K

theorem wp_keeps {Q : PUnit → sProp 𝕄} :
    iprop((records false m ∗ levAts L lv) ∗ owesE c 0 ∗ bigSep Finset.univ (keepPre c))
      ⊢ iprop((owesE c 0 ∗ bigSep Finset.univ (sendPost m c) -∗ runs c K Q) -∗ runs c (chunks.foldr pKeep K) Q) :=
  wp_chunks (R := iprop(records false m ∗ levAts L lv)) (fun _ => owesE c 0) (fun k ks K => by
    iintro ⟨⟨#HR, #HL⟩, HO, HP⟩ Hk
    iapply (step_keep m c k) $$ [HO HP]
    · isplitr
      · isplitr; · iapply (known_in false m c k); iexact HR
        isplitr; · iapply (known_out false m c k); iexact HR
        iexact HL
      isplitl [HO] <;> iassumption
    iexact Hk) K

theorem wp_kepts {Q : PUnit → sProp 𝕄} :
    iprop(records false m ∗ owesE c 0 ∗ bigSep Finset.univ (keptPre c))
      ⊢ iprop((owesE c 0 ∗ bigSep Finset.univ (keptPost m c) -∗ runs c K Q) -∗ runs c (chunks.foldr pKept K) Q) :=
  wp_chunks (R := records false m) (fun _ => owesE c 0) (fun k ks K => by
    iintro ⟨#HR, HO, HP⟩ Hk
    iapply (step_kept m c k) $$ [HO HP]
    · isplitr; · iapply (known_out false m c k); iexact HR
      isplitl [HO] <;> iassumption
    iexact Hk) K

end Loops

/-! ## The two ways -/

section Ways
variable (c : Dev nD)

theorem wp_swap (n : Dev nD) (hn : n = peer c) {Q : PUnit → sProp 𝕄} :
    iprop((records true m ∗ levAts L lv) ∗ begins true m c)
      ⊢ iprop((ends true m c -∗ Q ⟨⟩) -∗ runs c (chunks.foldr pIn (pSwap n (.ret ⟨⟩))) Q) := by
  unfold begins bufs toks cells credits
  rw [if_pos rfl]
  iintro ⟨⟨#HR, #HL⟩, HO, ⟨Hx, Hst, Hsb, Ho⟩, ⟨Htb, Hti, Hto, Hta⟩, ⟨Hab, Hai, Hao, Haa⟩, Hcb, Hca⟩ Hk
  iapply (wp_ins true m c (pSwap n (.ret ⟨⟩))) $$ [Hx Hst Hti]
  · isplitr; · iexact HR
    isplitl [Hx]; · iexact Hx
    isplitl [Hst] <;> iassumption
  iintro Hci
  subst hn
  unfold pSwap
  ihave #HKp := (known_bar true m (peer c)) $$ HR
  unfold known
  icases HKp with ⟨⟨%κ, #HIp⟩, #HRp⟩
  unfold owesE
  icases HO with ⟨%W, HO⟩
  iapply (Rounds.wp_signal 𝒱₀ ER (Rd true m) (c : Thread nD τ) none (dst := (peer c : Thread nD τ)) (κ := κ) (d := ()) (r := 0)
    (mem_rem m (barCell (peer c))) (amount_bar true m (peer c)) () (oArr c chunks) rfl (W := W)) $$ [HO Htb Ho]
  · isplitr; · iexact HIp
    isplitl [HO]; · iexact HO
    isplitl [Htb]; · iexact Htb
    isplitl [Ho]
    · rw [payload_bar]; unfold barPay; rw [peer_peer]; iexact Ho
    iexact HRp
  iintro HO
  iapply (wp_wait_close true m (wpE_semWait_eq 𝒱₀ (c : Thread nD τ) none Set.univ) (duties_rem m (barCell c)) (amount_bar true m c) (oArr c chunks)
    (payload_bar true m c)) $$ [HO Hcb Hab]
  · isplitr; · iapply (known_bar true m c); iexact HR
    isplitl [Hcb]; · iexact Hcb
    isplitl [HO]; · unfold owesE; iexists W; iexact HO
    isplitr; · iapply (mayWait_bar c chunks); iexact HL
    iexact Hab
  iintro ⟨HO, Hzb, Ho⟩
  unfold barPay
  iapply (wp_sends m c _ (peer c) rfl) $$ [HO Hci Hai Hsb Ho Hto Hta]
  · isplitr; · isplitr; · iexact HR
               iexact HL
    isplitl [HO]; · iexact HO
    unfold sendPre narrowPre; simp only [bigSep_sep']
    isplitl [Hci Hai Hsb]
    · isplitl [Hci]; · iexact Hci
      isplitl [Hai] <;> iassumption
    isplitl [Ho]; · iexact Ho
    isplitl [Hto] <;> iassumption
  unfold sendPost narrowPost; simp only [bigSep_sep']
  iintro ⟨HO, ⟨Hzi, Hx, Hst⟩, Hco⟩
  iapply (wp_meets m c _) $$ [HO Hco Hca Hao Haa]
  · isplitr; · iexact HR
    isplitl [HO]; · iexact HO
    unfold meetPre; simp only [bigSep_sep']
    isplitl [Hco]; · iexact Hco
    isplitl [Hca]; · iexact Hca
    isplitl [Hao] <;> iassumption
  unfold meetPost; simp only [bigSep_sep']
  iintro ⟨HO, Hsb, Ho, Hzo, Hza⟩
  unfold runs
  rw [wp_ret]; imodintro
  iapply Hk
  unfold ends bufsEnd cells
  isplitl [HO]; · iexact HO
  isplitl [Hx Hst Hsb Ho]
  · isplitl [Hx]; · iexact Hx
    isplitl [Hst]; · iexact Hst
    isplitl [Hsb]; · iexact Hsb
    unfold src; rw [if_pos rfl]; iexact Ho
  isplitl [Hzb]; · iexact Hzb
  isplitl [Hzi]; · iexact Hzi
  isplitl [Hzo] <;> iassumption

/-- A cell with no duty is closed at once. -/
theorem close_none (s : SemLoc sig) (h : isLocal s = false) :
    iprop(known false m ((c : Thread nD τ), s) ∗ atPos ER ((c : Thread nD τ), s) 0 ∅ 0) ⊢ |={Set.univ}=> (semVal ((c : Thread nD τ), s) 0 : sProp 𝕄) := by
  unfold known
  iintro ⟨⟨⟨%κ, #HI⟩, -⟩, Hat⟩
  iapply (Rounds.cell_close ER (Rd false m) (Set.mem_univ κ) (fun h => h) (R := 0) (fun r _ => duties_none m (c : Thread nD τ) s h r))
  isplitr; · iexact HI
  iexact Hat

/-- All arrival cells at once. -/
theorem close_arrs : iprop(records false m ∗ bigSep Finset.univ fun k => atPos ER (arrCell c k) 0 ∅ 0)
    ⊢ |={Set.univ}=> (bigSep Finset.univ fun k => semVal (arrCell c k) 0 : sProp 𝕄) := by
  have h : iprop(records false m ∗ bigSep Finset.univ fun k => atPos ER (arrCell c k) 0 ∅ 0)
      ⊢ (bigSep Finset.univ fun k => iprop(|={Set.univ}=> semVal (arrCell c k) 0) : sProp 𝕄) := by
    refine (show _ ⊢ bigSep Finset.univ (fun k => iprop(records false m ∗ atPos ER (arrCell c k) 0 ∅ 0)) from ?_).trans (bigSep_mono fun k _ => ?_)
    · rw [bigSep_sep']
      iintro ⟨#HR, Hat⟩
      isplitr; · iapply (BI.bigSep_of_persistent Finset.univ (records false m)); iexact HR
      iexact Hat
    · show iprop(records false m ∗ atPos ER (arrCell c k) 0 ∅ 0) ⊢ iprop(|={Set.univ}=> semVal (arrCell c k) 0)
      iintro ⟨#HR, Hat⟩
      iapply (close_none m c (.dma (arrS k)) (local_arr k))
      isplitr; · iapply (known_arr false m c k); iexact HR
      iexact Hat
  exact h.trans (bigSep_fupd _ _)

theorem wp_keep {Q : PUnit → sProp 𝕄} :
    iprop((records false m ∗ levAts L lv) ∗ begins false m c)
      ⊢ iprop((ends false m c -∗ Q ⟨⟩) -∗ runs c (chunks.foldr pIn pStay) Q) := by
  unfold begins bufs toks cells
  rw [show (O₀ false c : CellTallies nD τ sig Unit) = 0 from rfl]
  iintro ⟨⟨#HR, #HL⟩, HO, ⟨Hx, Hst, Hsb, Ho⟩, ⟨-, Hti, Hto, -⟩, ⟨Hab, Hai, Hao, Haa⟩, -⟩ Hk
  iapply (wp_ins false m c pStay) $$ [Hx Hst Hti]
  · isplitr; · iexact HR
    isplitl [Hx]; · iexact Hx
    isplitl [Hst] <;> iassumption
  iintro Hci
  unfold pStay
  iapply (wp_keeps m c _) $$ [HO Hci Hai Hsb Ho Hto]
  · isplitr; · isplitr; · iexact HR
               iexact HL
    isplitl [HO]; · iexact HO
    unfold keepPre narrowPre; simp only [bigSep_sep']
    isplitl [Hci Hai Hsb]
    · isplitl [Hci]; · iexact Hci
      isplitl [Hai] <;> iassumption
    isplitl [Ho] <;> iassumption
  unfold sendPost narrowPost; simp only [bigSep_sep']
  iintro ⟨HO, ⟨Hzi, Hx, Hst⟩, Hco⟩
  iapply (wp_kepts m c _) $$ [HO Hco Hao]
  · isplitr; · iexact HR
    isplitl [HO]; · iexact HO
    unfold keptPre; simp only [bigSep_sep']
    isplitl [Hco] <;> iassumption
  unfold keptPost; simp only [bigSep_sep']
  iintro ⟨HO, Hzo, Ho, Hsb⟩
  imod (close_none m c (.reg barS) rfl) $$ [Hab] with Hzb
  · isplitr; · iapply (known_bar false m c); iexact HR
    iexact Hab
  imod (close_arrs m c) $$ [Haa] with Hza
  · isplitr; · iexact HR
    iexact Haa
  rw [wp_ret]; imodintro
  iapply Hk
  unfold ends bufsEnd cells
  isplitl [HO]; · iexact HO
  isplitl [Hx Hst Hsb Ho]
  · isplitl [Hx]; · iexact Hx
    isplitl [Hst]; · iexact Hst
    isplitl [Hsb]; · iexact Hsb
    unfold src; rw [if_neg Bool.false_ne_true]; iexact Ho
  isplitl [Hzb]; · iexact Hzb
  isplitl [Hzi]; · iexact Hzi
  isplitl [Hzo] <;> iassumption

end Ways

/-! ## The word of the table -/

/-- The destination the table must name for device `c`: the other place on the first mesh axis, or its own. -/
def dstWord (c : Dev nD) : BitVec 32 := if rem then BitVec.ofNat 32 (1 - c.val / 2) else BitVec.ofNat 32 (c.val / 2)

theorem chk_dst : ∀ (rem : Bool) (c : Dev nD), k0_chk1 c (dstWord rem c) := by decide
theorem cond_swap : ∀ c : Dev nD, k0_cond1 c (dstWord true c) = 1#1 := by decide
theorem cond_keep : ∀ c : Dev nD, ¬ k0_cond1 c (dstWord false c) = 1#1 := by decide
theorem dev_swap : ∀ c : Dev nD, k0_dev1 c (dstWord true c) = (peer c).val := by decide
theorem end_swap : ∀ c : Dev nD, ¬ Scalar.cmpi .ne (stayWord c (dstWord true c)) 0#32 = 1#1 := by decide
theorem end_keep : ∀ c : Dev nD, Scalar.cmpi .ne (stayWord c (dstWord false c)) 0#32 = 1#1 := by decide

theorem rest_swap (c : Dev nD) (h : k0_chk1 c (dstWord true c)) :
    pRest (F := F) c (dstWord true c) h = chunks.foldr pIn (pSwap ⟨k0_dev1 c (dstWord true c), k0_dev1_lt c _ h (cond_swap c)⟩ (.ret ⟨⟩)) := by
  unfold pRest pEnd
  rw [dif_pos (cond_swap c), if_neg (end_swap c)]

theorem rest_keep (c : Dev nD) (h : k0_chk1 c (dstWord false c)) : pRest (F := F) c (dstWord false c) h = chunks.foldr pIn pStay := by
  unfold pRest pEnd
  rw [dif_neg (cond_keep c), if_pos (end_keep c)]

/-- The body after the word of the table, whichever way it goes. -/
theorem wp_rest (c : Dev nD) (h : k0_chk1 c (dstWord rem c)) {Q : PUnit → sProp 𝕄} :
    iprop((records rem m ∗ levAts L lv) ∗ begins rem m c) ⊢ iprop((ends rem m c -∗ Q ⟨⟩) -∗ runs c (pRest c (dstWord rem c) h) Q) := by
  cases rem with
  | true => rw [rest_swap]; exact wp_swap m c _ (Fin.ext (dev_swap c))
  | false => rw [rest_keep]; exact wp_keep m c

end Cert.Permute

end
-- ==== Proof.Buffers.lean ====
/-
# Buffers as chunks

A buffer held whole is its eight chunks held apart, and back: for the argument and the result, cut into eight runs of
256 rows, and for the two staging buffers, cut into their eight slots.
-/
module

public import proofs.«01_k».proof.Proof.Whole

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (rem : Bool) (m : (ℓ : Loc nD τ sig) → Buf (Elt F) ℓ)

/-! ## The cuts -/

theorem rX_disjoint (k k' : Fin 8) (h : k ≠ k') : Disjoint (rX k).set (rX k').set :=
  Rect.unit_disjoint 1 (by
    have : k.val ≠ k'.val := fun e => h (Fin.ext e)
    show 256 * k.val + 256 ≤ 256 * k'.val ∨ 256 * k'.val + 256 ≤ 256 * k.val
    omega)

theorem rS_disjoint (k k' : Fin 8) (h : k ≠ k') : Disjoint (rS k).set (rS k').set :=
  Rect.unit_disjoint 0 (by
    have : k.val ≠ k'.val := fun e => h (Fin.ext e)
    show k.val + 1 ≤ k'.val ∨ k'.val + 1 ≤ k.val
    omega)

theorem rX_cover : (Finset.univ : Finset (Fin 8)).biUnion (fun k => (rX k).set) = Finset.univ := by
  refine Finset.eq_univ_iff_forall.mpr fun i => Finset.mem_biUnion.mpr ?_
  have h0 : (i 0).val < 1 := (i 0).isLt
  have h1 : (i 1).val < 2048 := (i 1).isLt
  have h2 : (i 2).val < 1024 := (i 2).isLt
  refine ⟨⟨(i 1).val / 256, by omega⟩, Finset.mem_univ _, Rect.mem_set_unit.mpr fun a => ?_⟩
  fin_cases a
  · show 0 ≤ (i 0).val ∧ (i 0).val < 0 + 1; omega
  · show 256 * ((i 1).val / 256) ≤ (i 1).val ∧ (i 1).val < 256 * ((i 1).val / 256) + 256; omega
  · show 0 ≤ (i 2).val ∧ (i 2).val < 0 + 1024; omega

theorem rS_cover : (Finset.univ : Finset (Fin 8)).biUnion (fun k => (rS k).set) = Finset.univ := by
  refine Finset.eq_univ_iff_forall.mpr fun i => Finset.mem_biUnion.mpr ?_
  have h0 : (i 0).val < 8 := (i 0).isLt
  have h1 : (i 1).val < 256 := (i 1).isLt
  have h2 : (i 2).val < 1024 := (i 2).isLt
  refine ⟨⟨(i 0).val, h0⟩, Finset.mem_univ _, Rect.mem_set_unit.mpr fun a => ?_⟩
  fin_cases a
  · show (i 0).val ≤ (i 0).val ∧ (i 0).val < (i 0).val + 1; omega
  · show 0 ≤ (i 1).val ∧ (i 1).val < 0 + 256; omega
  · show 0 ≤ (i 2).val ∧ (i 2).val < 0 + 1024; omega

/-! ## Held whole and held in pieces -/

section Pieces
variable {sp : Space} {sh sh' : Shape} {e : EltTy} (c : Dev nD)

/-- A view without its axes of size one is owned as the view itself. -/
theorem owns_squeeze (M : Memref sig .tc sp sh e) (h : sh.Squeezes sh') (Z : sh.Idx → Elt F e) :
    (owns (c : Thread nD τ) (M.squeeze sh' h) fullShare (fun j => Z (Shape.reshapeEquiv h.numel_eq j)) : sProp 𝕄) = owns (c : Thread nD τ) M fullShare Z := by
  have hread (f : M.view.ty.Contents (Elt F)) : (M.squeeze sh' h).view.read (Elt F) f = fun j => M.view.read (Elt F) f (Shape.reshapeEquiv h.numel_eq j) := rfl
  have hset : (M.squeeze sh' h).view.set = M.view.set := View.set_reshape _ _
  have h₁ : (owns (c : Thread nD τ) (M.squeeze sh' h) fullShare (fun j => Z (Shape.reshapeEquiv h.numel_eq j)) : sProp 𝕄) ⊢ owns (c : Thread nD τ) M fullShare Z := by
    unfold owns
    iintro ⟨%f, %hf, H⟩
    iexists f
    isplitr
    · ipureintro
      funext i
      have := congrFun ((hread f).symm.trans hf) ((Shape.reshapeEquiv h.numel_eq).symm i)
      simpa using this
    · rw [← hset]; iexact H
  have h₂ : (owns (c : Thread nD τ) M fullShare Z : sProp 𝕄) ⊢ owns (c : Thread nD τ) (M.squeeze sh' h) fullShare (fun j => Z (Shape.reshapeEquiv h.numel_eq j)) := by
    unfold owns
    iintro ⟨%f, %hf, H⟩
    iexists f
    isplitr
    · ipureintro; rw [hread, hf]
    · rw [hset]; iexact H
  exact BI.equiv_iff.mp ⟨h₁, h₂⟩

variable (M : Memref sig .tc sp sh e) (r : Fin 8 → Rect sh) (hr : ∀ k a, (r k).stride a = 1)
  (hd : ∀ k k', k ≠ k' → Disjoint (r k).set (r k').set) (hc : (Finset.univ : Finset (Fin 8)).biUnion (fun k => (r k).set) = Finset.univ)
  (hs : ∀ k, (r k).shape.Squeezes sh')
include hd hc

/-- Owning a buffer at `Z` is owning its eight pieces at what each holds of `Z`. -/
theorem owns_pieces (Z : sh.Idx → Elt F e) :
    (owns (c : Thread nD τ) M fullShare Z : sProp 𝕄)
      = bigSep Finset.univ fun k => owns (c : Thread nD τ) ((M.slice (r k) (hr k)).squeeze sh' (hs k)) fullShare
          (fun j => Z ((r k).emb (Shape.reshapeEquiv (hs k).numel_eq j))) := by
  rw [BI.bigSep_congr fun k _ => owns_squeeze c (M.slice (r k) (hr k)) (hs k) fun j => Z ((r k).emb j)]
  have h₁ := owns_rects (Ix := Unit) (Name := ℕ) (U := UU) (Lvl := ℕ) (Val := Elt F) (c : Thread nD τ) M fullShare r hr hd hc Z
  have h₂ := owns_of_rects (Ix := Unit) (Name := ℕ) (U := UU) (Lvl := ℕ) (Val := Elt F) (c : Thread nD τ) M fullShare r hr hd hc Z
  exact BI.equiv_iff.mp ⟨h₁, h₂⟩

omit hd hc in
/-- A view owned at some contents. -/
theorem owns_any (M : Memref sig .tc sp sh e) (Z : sh.Idx → Elt F e) :
    (owns (c : Thread nD τ) M fullShare Z : sProp 𝕄) ⊢ iprop(∃ Y, owns (c : Thread nD τ) M fullShare Y) := by
  iintro H; iexists Z; iexact H

end Pieces

/-! ## The four buffers -/

section Buffers
variable (c : Dev nD)

theorem arg_chunks : (((c : Thread nD τ).loc main_arg0) ↦{fullShare} m ((c : Thread nD τ).loc main_arg0) : sProp 𝕄) = bigSep Finset.univ fun k => xOwn m c k := by
  rw [← owns_whole]
  exact owns_pieces c (Memref.whole main_arg0) rX (fun _ _ => rfl) rX_disjoint rX_cover (fun _ => squeezes_S1x256x1024_S256x1024) _

theorem st_chunks (f : Vec F S8x256x1024 .f32) : (((c : Thread nD τ).loc cc0_scratch0) ↦{fullShare} f : sProp 𝕄) ⊢ bigSep Finset.univ fun k => stAny (F := F) c k := by
  rw [← owns_whole]
  refine (Entails.of_eq (owns_pieces c stW rS (fun _ _ => rfl) rS_disjoint rS_cover (fun _ => squeezes_S1x256x1024_S256x1024) _)).trans (bigSep_mono fun k _ => ?_)
  exact owns_any c _ _

theorem sb_chunks (f : Vec F S8x256x1024 .bf16) : (((c : Thread nD τ).loc cc0_scratch1) ↦{fullShare} f : sProp 𝕄) ⊢ bigSep Finset.univ fun k => sbAny (F := F) c k := by
  rw [← owns_whole]
  refine (Entails.of_eq (owns_pieces c sbW rS (fun _ _ => rfl) rS_disjoint rS_cover (fun _ => squeezes_S1x256x1024_S256x1024) _)).trans (bigSep_mono fun k _ => ?_)
  exact owns_any c _ _

theorem out_chunks (f : Vec F S1x2048x1024 .bf16) : (((c : Thread nD τ).loc main_v1) ↦{fullShare} f : sProp 𝕄) ⊢ bigSep Finset.univ fun k => oAny (F := F) c k := by
  rw [← owns_whole]
  refine (Entails.of_eq (owns_pieces c (Memref.whole main_v1) rX (fun _ _ => rfl) rX_disjoint rX_cover (fun _ => squeezes_S1x256x1024_S256x1024) _)).trans (bigSep_mono fun k _ => ?_)
  exact owns_any c _ _

/-- A device's block of the argument narrowed: what the kernel leaves in the result of the device it goes to. -/
def narrowAll (d : Dev nD) : Vec F S1x2048x1024 .bf16 :=
  truncf .bf16 (show Vec F S1x2048x1024 .f32 from m ((d : Thread nD τ).loc main_arg0)) bitsLt_bf16_f32

theorem out_whole (d : Dev nD) : (bigSep Finset.univ fun k => oOwn (F := F) m c d k : sProp 𝕄) = (((c : Thread nD τ).loc main_v1) ↦{fullShare} narrowAll m d) := by
  rw [← owns_whole]
  exact (owns_pieces c (Memref.whole main_v1) rX (fun _ _ => rfl) rX_disjoint rX_cover (fun _ => squeezes_S1x256x1024_S256x1024) (narrowAll m d)).symm

/-- Slot `k` of a staging buffer: the elements whose first coordinate is `k`. -/
def slots {e : EltTy} (Y : Fin 8 → S256x1024.Idx → Elt F e) : S8x256x1024.Idx → Elt F e := fun i =>
  Y ⟨(i 0).val, (i 0).isLt⟩ ((Shape.reshapeEquiv squeezes_S1x256x1024_S256x1024.numel_eq).symm fun a => match a with
    | ⟨0, _⟩ => (⟨0, Nat.one_pos⟩ : Fin 1)
    | ⟨1, _⟩ => i 1
    | ⟨2, _⟩ => i 2)

theorem slots_at {e : EltTy} (Y : Fin 8 → S256x1024.Idx → Elt F e) (k : Fin 8) (j : S256x1024.Idx) :
    slots Y ((rS k).emb (Shape.reshapeEquiv squeezes_S1x256x1024_S256x1024.numel_eq j)) = Y k j := by
  generalize hi : Shape.reshapeEquiv squeezes_S1x256x1024_S256x1024.numel_eq j = i
  have h0 : (i 0).val = 0 := Nat.lt_one_iff.mp (i 0).isLt
  have e0 : (⟨(((rS k).emb i) 0).val, (((rS k).emb i) 0).isLt⟩ : Fin 8) = k := Fin.ext (by
    show k.val + 1 * (i 0).val = k.val; omega)
  have e1 : (fun a => match a with
    | ⟨0, _⟩ => (⟨0, Nat.one_pos⟩ : Fin 1)
    | ⟨1, _⟩ => ((rS k).emb i) 1
    | ⟨2, _⟩ => ((rS k).emb i) 2 : S1x256x1024.Idx) = i := by
    funext a
    fin_cases a
    · exact Fin.ext h0.symm
    · exact Fin.ext (by show 0 + 1 * (i 1).val = (i 1).val; omega)
    · exact Fin.ext (by show 0 + 1 * (i 2).val = (i 2).val; omega)
  unfold slots
  rw [e0]
  refine congrArg (Y k) ((congrArg _ e1).trans ?_)
  rw [← hi]; exact Equiv.symm_apply_apply _ _

theorem st_whole : (bigSep Finset.univ fun k => stOwn m c k : sProp 𝕄) ⊢ iprop(∃ f, ((c : Thread nD τ).loc cc0_scratch0) ↦{fullShare} f) := by
  have h : (bigSep Finset.univ fun k => stOwn m c k : sProp 𝕄) = (((c : Thread nD τ).loc cc0_scratch0) ↦{fullShare} slots (e := .f32) fun k => X m c k) := by
    rw [← owns_whole, owns_pieces c stW rS (fun _ _ => rfl) rS_disjoint rS_cover (fun _ => squeezes_S1x256x1024_S256x1024)]
    exact BI.bigSep_congr fun k _ => congrArg (owns (c : Thread nD τ) (stM k) fullShare) (funext fun j => (slots_at _ k j).symm)
  rw [h]; iintro H; iexists _; iexact H

theorem sb_whole : (bigSep Finset.univ fun k => sbOwn m c k : sProp 𝕄) ⊢ iprop(∃ f, ((c : Thread nD τ).loc cc0_scratch1) ↦{fullShare} f) := by
  have h : (bigSep Finset.univ fun k => sbOwn m c k : sProp 𝕄) = (((c : Thread nD τ).loc cc0_scratch1) ↦{fullShare} slots (e := .bf16) fun k => T m c k) := by
    rw [← owns_whole, owns_pieces c sbW rS (fun _ _ => rfl) rS_disjoint rS_cover (fun _ => squeezes_S1x256x1024_S256x1024)]
    exact BI.bigSep_congr fun k _ => congrArg (owns (c : Thread nD τ) (sbM k) fullShare) (funext fun j => (slots_at _ k j).symm)
  rw [h]; iintro H; iexists _; iexact H

/-- What the device has of its buffers before the kernel body runs, cut into the chunks the protocol moves. -/
theorem bufs_intro (f : Vec F S8x256x1024 .f32) (g : Vec F S8x256x1024 .bf16) (o : Vec F S1x2048x1024 .bf16) :
    iprop((((c : Thread nD τ).loc main_arg0) ↦{fullShare} m ((c : Thread nD τ).loc main_arg0)) ∗ (((c : Thread nD τ).loc main_v1) ↦{fullShare} o)
        ∗ (((c : Thread nD τ).loc cc0_scratch0) ↦{fullShare} f) ∗ (((c : Thread nD τ).loc cc0_scratch1) ↦{fullShare} g))
      ⊢ (bufs m c : sProp 𝕄) := by
  unfold bufs
  iintro ⟨Hx, Ho, Hst, Hsb⟩
  isplitl [Hx]; · rw [← arg_chunks]; iexact Hx
  isplitl [Hst]; · iapply (st_chunks c f); iexact Hst
  isplitl [Hsb]; · iapply (sb_chunks c g); iexact Hsb
  iapply (out_chunks c o); iexact Ho

/-- And after it, joined again. -/
theorem bufsEnd_elim : (bufsEnd rem m c : sProp 𝕄)
    ⊢ iprop((((c : Thread nD τ).loc main_arg0) ↦{fullShare} m ((c : Thread nD τ).loc main_arg0)) ∗ (((c : Thread nD τ).loc main_v1) ↦{fullShare} narrowAll m (src rem c))
        ∗ (∃ f, ((c : Thread nD τ).loc cc0_scratch0) ↦{fullShare} f) ∗ (∃ f, ((c : Thread nD τ).loc cc0_scratch1) ↦{fullShare} f)) := by
  unfold bufsEnd
  iintro ⟨Hx, Hst, Hsb, Ho⟩
  isplitl [Hx]; · rw [arg_chunks]; iexact Hx
  isplitl [Ho]; · rw [← out_whole]; iexact Ho
  isplitl [Hst]; · iapply (st_whole m c); iexact Hst
  iapply (sb_whole m c); iexact Hsb

end Buffers

end Cert.Permute

end
-- ==== Proof.Launch.lean ====
/-
# The launch

From a memory whose tables name, on every device, the expected destination, `run_main`: every run of the program ends
with each result holding the source device's block narrowed, the arguments unchanged and every semaphore at zero.
-/
module

public import proofs.«01_k».proof.Proof.Buffers
public import Idealize.ShloMosaic.Lib.Pipeline.CollectiveSegs

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (rem : Bool) (m : (ℓ : Loc nD τ sig) → Buf (Elt F) ℓ) (ρ : Dev nD → PrngReg)

/-- The state at launch: the memory given, every counter at zero. -/
def s₀ : MemSt nD τ sig (Elt F) := ⟨m, fun _ => 0, ρ⟩

/-! ## The table -/

/-- Device `c`'s entry of its table: the one at its place on the first mesh axis. -/
def place (c : Dev nD) : S2.Idx := fun a => ⟨c.val / 2, by have : c.val < 4 := c.isLt; fin_cases a; show c.val / 2 < 2; omega⟩

/-- On every device the entry names the expected destination. -/
def Table : Prop := ∀ c : Dev nD, (show IVec S2 32 from m ((c : Thread nD τ).loc main_arg1)) (place c) = dstWord rem c

/-- The table as staged, -/
def tstg (c : Dev nD) : (cc0_stg0_0 : Ref sig .tc).ty.Contents (Elt F) :=
  (win0_0.blk (0 : Fin 1)).view.read (Elt F) ((s₀ m ρ).mem ((c : Thread nD τ).loc main_arg1))
abbrev rT (c : Dev nD) : Rect S2 := Rect.unit (s := S2) (k0_off1 c) S1.size (k0_off1_inb c)
/-- and the word the body loads of it. -/
abbrev tword (c : Dev nD) (ts : (cc0_stg0_0 : Ref sig .tc).ty.Contents (Elt F)) : BitVec 32 :=
  ((Memref.whole cc0_stg0_0).access (rT c) : View sig .tc _ _ _).read (Elt F) ts (Shape.Idx.first (s := S1) (numel1_S1.symm ▸ Nat.one_pos))

theorem tword_tstg (c : Dev nD) : tword c (tstg m ρ c) = (show IVec S2 32 from m ((c : Thread nD τ).loc main_arg1)) (place c) := by
  show m ((c : Thread nD τ).loc main_arg1) _ = m ((c : Thread nD τ).loc main_arg1) _
  refine congrArg _ (funext fun a => Fin.ext ?_)
  fin_cases a; fin_cases c <;> rfl

/-! ## What the body starts from and ends with -/

/-- The protocol's part of the start, -/
def start (c : Dev nD) : sProp 𝕄 :=
  iprop((records rem m ∗ levAts L lv) ∗ (toks c ∗ cells c (fun g => atPos ER g 0 ∅ 0) ∗ credits rem c)
    ∗ (((c : Thread nD τ).loc main_arg0) ↦{fullShare} m ((c : Thread nD τ).loc main_arg0))
    ∗ (((c : Thread nD τ).loc main_v1) ↦{fullShare} m ((c : Thread nD τ).loc main_v1)))

/-- the staging buffers at whatever they hold, -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start rem m c ∗ scratch c)
/-- and the end. -/
def Φ₁ (c : Dev nD) : sProp 𝕄 := iprop(bufsEnd rem m c ∗ cells c (fun g => semVal g 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
  Φ t := match t with
    | ⟨0, _⟩ => Φ₀ rem m c
    | ⟨_ + 1, _⟩ => Φ₁ rem m c
  q _ := fullShare
  owed t := match t with
    | ⟨0, _⟩ => O₀ rem c
    | ⟨_ + 1, _⟩ => 0

theorem fetch_0 (t : Fin cfg0.N) : (cfg0.win (0 : Fin 1)).fetch t = true := by rw [fin_N0 t]; rfl

section Body
variable (c : Dev nD)

abbrev stg (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre : sProp 𝕄 :=
  iprop(Φ₀ rem m c ∗ (dats rem m ρ 0 c).owesAt () t0_0.castSucc ∗ (∃ d, stg c ((dats rem m ρ 0 c).before (0 : Fin 1) t0_0 d)))
def bodyPost : sProp 𝕄 :=
  iprop(Φ₁ rem m c ∗ (dats rem m ρ 0 c).owesAt () t0_0.succ ∗ stg c (tstg m ρ c))

universe v in
theorem bind_bind {E : Type → Type v} {α β : Type} (p : Prog E α) (k : α → Prog E β) : Prog.bind p k = p >>= k := rfl

/-- The body: the word of the table is loaded, found to be in range, and the rest run. -/
theorem sound_body (ht : Table rem m) : bodyPre rem m ρ c ⊢ (runs c kBody (fun _ => bodyPost rem m ρ c) : sProp 𝕄) := by
  have hword : tword c (tstg m ρ c) = dstWord rem c := (tword_tstg m ρ c).trans (ht c)
  have hchk : k0_chk1 c (tword c (tstg m ρ c)) := hword ▸ chk_dst rem c
  rw [body_eq]
  unfold pBody runs
  simp only [bind_bind, smemLoad, smemLoadElt, Prog.lift, Prog.bind_op, Prog.bind_ret, Prog.pure_eq_ret, wp_deviceId]
  unfold bodyPre Φ₀ start scratch
  iintro ⟨⟨⟨#HP, ⟨Htk, Hat, Hcr⟩, Hx, Ho⟩, ⟨%f, Hst⟩, ⟨%g, Hsb⟩⟩, HO, ⟨%d0, %g0, %hg0, Ht⟩⟩
  have hg : g0 = tstg m ρ c := by rw [hg0]; unfold Dat.before; rw [if_pos (fetch_0 t0_0)]; rfl
  subst hg
  unfold Dat.owesAt Pipeline.owesWithin
  icases HO with ⟨%W, %hW, HO⟩
  rw [show (dats rem m ρ 0 c).owed t0_0.castSucc = O₀ rem c from rfl]
  iapply (wp_load_rect 𝒱₀ (c : Thread nD τ) none Set.univ (m := Memref.whole cc0_stg0_0) (r := rT c) (Finset.subset_univ _)) $$ Ht; iintro Ht
  simp only [wp_assume_of _ _ _ _ (d := k0_chk1.dec _ _) hchk]
  have hrest : iprop((records rem m ∗ levAts L lv) ∗ begins rem m c)
      ⊢ (iprop((ends rem m c -∗ bodyPost rem m ρ c) -∗ runs c (pRest c (tword c (tstg m ρ c)) hchk) (fun _ => bodyPost rem m ρ c)) : sProp 𝕄) := by
    revert hchk; rw [hword]; intro hchk
    exact wp_rest rem m c hchk (Q := fun _ => bodyPost rem m ρ c)
  iapply hrest $$ [HO Htk Hat Hcr Hx Ho Hst Hsb]
  · isplitr; · iexact HP
    unfold begins
    isplitl [HO]; · unfold owesE; iexists W; iexact HO
    isplitl [Hx Ho Hst Hsb]
    · iapply (bufs_intro m c f g _)
      isplitl [Hx]; · iexact Hx
      isplitl [Ho]; · iexact Ho
      isplitl [Hst] <;> iassumption
    isplitl [Htk]; · iexact Htk
    isplitl [Hat] <;> iassumption
  unfold ends owesE
  iintro ⟨⟨%W', HO⟩, Hb, Hz⟩
  unfold bodyPost Φ₁ Dat.owesAt Pipeline.owesWithin
  rw [show (dats rem m ρ 0 c).owed t0_0.succ = 0 from rfl]
  isplitl [Hb Hz]; · isplitl [Hb] <;> iassumption
  isplitl [HO]
  · iexists W'
    isplitr; · ipureintro; exact fun _ _ => Or.inl trivial
    iexact HO
  iexists _; isplitr; · (ipureintro; rfl)
  iexact Ht

end Body

/-- The body as the launch asks for it. -/
theorem body_obligation (ht : Table rem m) (c : Dev nD) : BodyObligation (dats (F := F) rem m ρ 0 c) (defs₀ (F := F)) 𝒱₀ () Set.univ := fun t => by
  rw [fin_N0 t]
  rw [bigSep_W0, bigSep_W0]
  simp only [owns_whole_eq]
  exact sound_body rem m ρ c ht

/-! ## The ghost state at launch -/

/-- The semaphores of the kernel's own: those of the protocol but the barrier. -/
abbrev osem (j : Fin 24) : SemLoc sig := .dma ⟨j.val + 1, Nat.succ_lt_succ j.isLt⟩
theorem ownSemFacts : Pipeline.OwnSemFacts cfg0.spec osem := by decide

theorem ksem_injective : Function.Injective ksem := by decide
theorem kcell_injective : Function.Injective kcell := fun ⟨c, j⟩ ⟨c', j'⟩ h => by
  obtain rfl : c = c' := congrArg (fun g : GSem nD τ sig => g.1.1) h
  obtain rfl : j = j' := ksem_injective (congrArg Prod.snd h)
  rfl
def allCells : Finset (GSem nD τ sig) := Finset.univ.map ⟨kcell, kcell_injective⟩
def allToks : Finset (GSem nD τ sig × ℕ × Unit) :=
  Finset.univ.map ⟨fun ck : Dev nD × Fin 25 => (kcell ck, 0, ()), fun _ _ h => kcell_injective (congrArg Prod.fst h)⟩

def u₀ : UU := (initOf (Pipeline.cells cfgs cellOf_inj) (Pipeline.launchToks cfgs cellOf_inj), initOf allCells allToks)

/-- What a device is dealt: its cells' states, positions and marks, and the tokens of its cells' duties. -/
def G (c : Dev nD) : sProp 𝕄 :=
  iprop((bigSep Finset.univ fun j : Fin 25 => roundState ER (Rd rem m) (kcell (c, j)) 0)
    ∗ cells c (fun g => atPos ER g 0 ∅ 0) ∗ (bigSep Finset.univ fun j : Fin 25 => reached ER (kcell (c, j)) 0) ∗ cells c (fun g => dutyTok ER g 0 ()))
/-- What it holds once the cells' invariants are made and the tokens are with the devices that pay. -/
def G' (c : Dev nD) : sProp 𝕄 := iprop(records rem m ∗ cells c (fun g => atPos ER g 0 ∅ 0) ∗ toks c)

theorem fund_all : BI.own (ER (initOf allCells allToks)) ⊢ (|==> bigSep Finset.univ (G rem m) : sProp 𝕄) := by
  have hX (Φ : GSem nD τ sig → sProp 𝕄) : bigSep allCells Φ = bigSep Finset.univ fun c : Dev nD => bigSep Finset.univ fun j : Fin 25 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => cells c fun g => dutyTok ER g 0 () := by
    unfold allToks; rw [bigSep_map, bigSep_univ_prod]
    exact bigSep_congr fun c _ => cells_eq c fun g => dutyTok ER g 0 ()
  iintro HX
  imod (Rounds.fund ER (Rd rem m) allCells allToks) $$ HX with ⟨Hst, Hr, Hat, Htok⟩
  imodintro
  ihave Hst' := (Entails.of_eq (hX fun g => roundState ER (Rd rem m) g 0)) $$ Hst
  ihave Hat' := (Entails.of_eq ((hX fun g => atPos ER g 0 ∅ 0).trans (bigSep_congr fun c _ => cells_eq c fun g => atPos ER g 0 ∅ 0))) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-- The kernel's own semaphores and the barrier are a device's cells. -/
theorem sems_cells (c : Dev nD) :
    (iprop(Pipeline.ownSems0 (Ix := Unit) (Name := ℕ) (U := UU) (Lvl := ℕ) (Val := Elt F) (τ := τ) osem c ∗ unscopedSems0 c) : sProp 𝕄)
      = cells c fun g => semVal g 0 := by
  have hown : (Pipeline.ownSems0 (Ix := Unit) (Name := ℕ) (U := UU) (Lvl := ℕ) (Val := Elt F) (τ := τ) osem c : sProp 𝕄)
      = bigSep (Finset.univ.erase (0 : Fin 25)) fun j => semVal (kcell (c, j)) 0 := by
    have hm : (Finset.univ.erase (0 : Fin 25)) = Finset.univ.map ⟨Fin.succ, Fin.succ_injective 24⟩ := by decide
    rw [hm, bigSep_map]; rfl
  have hbar : (unscopedSems0 c : sProp 𝕄) = semVal (kcell (c, 0)) 0 := by
    unfold unscopedSems0; rw [bigSep_eq_bigSepL_of_eq [SemLoc.reg barS] (by decide) (by decide)]; rfl
  rw [← cells_eq, bigSep_univ_at _ (0 : Fin 25), hown, hbar]
  exact BI.Entails.antisymm BI.sep_comm BI.sep_comm

/-- A device's cells' invariants made. -/
theorem core_alloc (c : Dev nD) :
    iprop(Pipeline.ownSems0 (Ix := Unit) (Name := ℕ) (U := UU) (Lvl := ℕ) (Val := Elt F) (τ := τ) osem c ∗ unscopedSems0 c ∗ G rem m c)
      ⊢ (iprop(|={Set.univ}=> ((bigSep Finset.univ fun j : Fin 25 => known rem m (kcell (c, j)))
          ∗ cells c (fun g => atPos ER g 0 ∅ 0) ∗ cells c (fun g => dutyTok ER g 0 ()))) : sProp 𝕄) := by
  unfold G
  iintro ⟨Hos, Hus, Hst, Hat, Hr, Htok⟩
  ihave Hv := (Entails.of_eq ((sems_cells (F := F) c).trans (cells_eq c _).symm)) $$ [Hos Hus]
  · isplitl [Hos] <;> iassumption
  imod (show iprop((bigSep Finset.univ fun j : Fin 25 => semVal (kcell (c, j)) 0) ∗ bigSep Finset.univ fun j : Fin 25 => roundState ER (Rd rem m) (kcell (c, j)) 0)
      ⊢ (|={Set.univ}=> bigSep Finset.univ fun j => iprop(∃ κ : ℕ, cellInv ER (Rd rem m) κ (kcell (c, j))) : sProp 𝕄) from by
        rw [← bigSep_sep']
        exact (bigSep_mono fun j _ => (Rounds.body_intro ER (Rd rem m) (kcell (c, j))).trans inv_alloc).trans (bigSep_fupd _ _)) $$ [Hv Hst] with Hinv
  · isplitl [Hv] <;> iassumption
  imodintro
  isplitl [Hinv Hr]
  · unfold known; rw [bigSep_sep']
    isplitl [Hinv] <;> iassumption
  isplitl [Hat] <;> iassumption

def peerEquiv : Dev nD ≃ Dev nD := ⟨peer, peer, peer_peer, peer_peer⟩

/-- The barrier's and the arrivals' tokens go to the peer, which pays them. -/
theorem toks_across : (bigSep Finset.univ fun c : Dev nD => cells c fun g => (dutyTok ER g 0 () : sProp 𝕄)) = bigSep Finset.univ fun c : Dev nD => toks c := by
  unfold cells toks
  rw [bigSep_sep', bigSep_sep', bigSep_sep', bigSep_sep', bigSep_sep', bigSep_sep',
    bigSep_univ_equiv peerEquiv (fun c : Dev nD => (dutyTok ER (barCell c) 0 () : sProp 𝕄)),
    bigSep_univ_equiv peerEquiv (fun c : Dev nD => (bigSep Finset.univ fun k => dutyTok ER (arrCell c k) 0 () : sProp 𝕄))]
  rfl

theorem regroup :
    (bigSep Finset.univ fun c : Dev nD => iprop((bigSep Finset.univ fun j : Fin 25 => known rem m (kcell (c, j)))
          ∗ cells c (fun g => atPos ER g 0 ∅ 0) ∗ cells c (fun g => dutyTok ER g 0 ())) : sProp 𝕄)
      ⊢ bigSep Finset.univ (G' rem m) := by
  rw [bigSep_sep', bigSep_sep', ← bigSep_univ_prod (fun ck : Dev nD × Fin 25 => known rem m (kcell ck)), toks_across]
  unfold G'
  rw [bigSep_sep', bigSep_sep']
  iintro ⟨#HR, Hat, Htok⟩
  isplitr
  · iapply (BI.bigSep_of_persistent Finset.univ (records rem m)); unfold records; iexact HR
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G rem m c) : sProp 𝕄)
    ⊢ |={Set.univ}=> bigSep Finset.univ (G' rem m) :=
  ((bigSep_mono fun c _ => core_alloc rem m c).trans (bigSep_fupd _ _)).trans (BI.fupd_mono (regroup rem m))

/-! ## The credit at launch -/

/-- The arrivals a device is owed for the chunks `ks`. -/
theorem creds_arr (c : Dev nD) : ∀ ks : List (Fin 8),
    (Pipeline.launchCred (fun d => oArr d ks) c : sProp 𝕄) ⊢ bigSepL ks fun k => cred (tallyAt (arrCell c k) () Nout)
  | [] => by
    rw [show (fun d : Dev nD => oArr d []) = fun _ => (0 : CellTallies nD τ sig Unit) from rfl, Pipeline.launchCred_zero]
    exact BI.Entails.refl _
  | k :: ks => by
    rw [show (fun d : Dev nD => oArr d (k :: ks)) = fun d => oArr d ks + tallyAt (arrCell (peer d) k) () Nout from rfl, Pipeline.launchCred_add, bigSepL_cons']
    iintro ⟨H, Hk⟩
    isplitl [Hk]
    · iapply (Pipeline.launchCred_tallyAt (.dma (arrS k)) peer peer peer_peer peer_peer () Nout c); iexact Hk
    · iapply (creds_arr c ks); iexact H

theorem creds (c : Dev nD) : (Pipeline.launchCred (O₀ rem) c : sProp 𝕄) ⊢ credits rem c := by
  unfold credits
  cases rem with
  | false =>
    rw [show (O₀ false : Dev nD → CellTallies nD τ sig Unit) = fun _ => 0 from rfl, Pipeline.launchCred_zero]
    exact BI.Entails.refl _
  | true =>
    rw [if_pos rfl, show (O₀ true : Dev nD → CellTallies nD τ sig Unit) = fun d => oArr d chunks + tallyAt (barCell (peer d)) () 1 from rfl,
      Pipeline.launchCred_add, bigSep_chunks]
    iintro ⟨Ha, Hb⟩
    isplitl [Hb]
    · iapply (Pipeline.launchCred_tallyAt (.reg barS) peer peer peer_peer peer_peer () 1 c); iexact Hb
    · iapply (creds_arr c chunks); iexact Ha

/-! ## The run's side conditions -/

theorem start_intro (c : Dev nD) :
    iprop(Pipeline.unscopedRestP Pipeline.Prefetch.none cfg0.spec c (fun b => m ((c : Thread nD τ).loc b)) ∗ levAts L lv
        ∗ Pipeline.launchCred (O₀ rem) c ∗ prngReg c (ρ c) ∗ G' rem m c)
      ⊢ (iprop(|={Set.univ}=> (start rem m c ∗ emp)) : sProp 𝕄) := by
  rw [Pipeline.unscopedRestP_none, unscopedRest0_eq]
  unfold G'
  iintro ⟨⟨Hx, Ho⟩, Hlev, Hcr, -, HR, Hat, Htok⟩
  ihave Hc := (creds (F := F) rem c) $$ Hcr
  imodintro
  unfold start
  isplitl
  · isplitl [HR Hlev]; · isplitl [HR] <;> iassumption
    isplitl [Htok Hat Hc]
    · isplitl [Htok]; · iexact Htok
      isplitl [Hat] <;> iassumption
    isplitl [Hx] <;> iassumption
  · iempintro

theorem phi0_intro (c : Dev nD) :
    iprop(start rem m c ∗ Pipeline.prefHeld Pipeline.Prefetch.none c (fun _ => fullShare.right) (fun k => k.elim0) ∗ Pipeline.scopedRest cfg0.spec c)
      ⊢ (dats rem m ρ 0 c).Φ 0 := by
  rw [show (dats rem m ρ 0 c).Φ 0 = Φ₀ rem m c from rfl, scopedRest0_eq]
  unfold Φ₀ scratch
  iintro ⟨Hs, -, Hr⟩
  isplitl [Hs] <;> iassumption

/-- What a device is left with: the semaphores outside the kernel at zero, the argument and the result. -/
def left (c : Dev nD) : sProp 𝕄 :=
  iprop(unscopedSems0 c ∗ (((c : Thread nD τ).loc main_arg0) ↦{fullShare} m ((c : Thread nD τ).loc main_arg0))
    ∗ (((c : Thread nD τ).loc main_v1) ↦{fullShare} narrowAll m (src rem c)))

theorem phi1_exit (c : Dev nD) :
    (dats rem m ρ 0 c).Φ (Fin.last cfg0.N) ⊢ (iprop(left rem m c ∗ Pipeline.ownSems0 osem c ∗ Pipeline.scopedRest cfg0.spec c) : sProp 𝕄) := by
  rw [show (dats rem m ρ 0 c).Φ (Fin.last cfg0.N) = Φ₁ rem m c from rfl, scopedRest0_eq]
  unfold Φ₁ left
  rw [← sems_cells]
  iintro ⟨Hb, Hos, Hus⟩
  ihave Hb' := (bufsEnd_elim rem m c) $$ Hb
  icases Hb' with ⟨Hx, Ho, Hst, Hsb⟩
  isplitl [Hus Hx Ho]
  · isplitl [Hus]; · iexact Hus
    isplitl [Hx] <;> iassumption
  isplitl [Hos]; · iexact Hos
  isplitl [Hst] <;> iassumption

theorem waits (c : Dev nD) : (levAts L lv : sProp 𝕄) ⊢ Pipeline.cellsWaits cfgs (dats rem m ρ) () 0 c :=
  Pipeline.cellsWaits_intro cfgs (dats rem m ρ) () 0 c fun w s t => by
    have hq : ∀ (w : Fin cfg0.W) (s : Fin (cfg0.win w).nbuf), ((cfg0.win w).sem s).val < 17 := by decide
    rcases t with ⟨_ | _, ht⟩
    · exact mayWait_O₀ rem c _ (hq w s)
    · exact mayWait_O₀ false c _ (hq w s)

theorem share_eq (c : Dev nD) (w : Fin cfg0.W) : (dats rem m ρ 0 c).share w = fullShare := by unfold Dat.share; split <;> rfl

/-- What a run leaves: the arguments unchanged, the results holding the source devices' blocks narrowed, the counters at zero. -/
def Done (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = narrowAll m (src rem c)) ∧ r.2.sem = fun _ => 0

/-- What is read of a device's state at the end. -/
def Read (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1) = narrowAll m (src rem c)

theorem left_read (c : Dev nD) (s' : Phys nD τ sig (Elt F)) :
    iprop(left rem m c ∗ emp ∗ SI s') ⊢ (iprop(|={Set.univ}=> (⌜Read rem m c s'.mem⌝ ∗ SI s')) : sProp 𝕄) := by
  unfold left
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ hx, Buf.eq_of_forall_mem_univ ho⟩
  · iexact HSI

set_option maxRecDepth 8000 in
/-- From a memory whose tables name the expected destinations, every run of the program ends, and ends as `Done` says. -/
theorem run_main (ht : Table rem m) : θ_run defs (onTc (τ := τ) (main (F := F))) (s₀ m ρ) (Done rem m) :=
  Pipeline.θ_run_region_owing_glob_pf (fun p => (cfgs p).toPCfg) (fun p => (cfgs p).toPCfg_adm) (dats rem m ρ) () cellOf_inj (0 : Fin 1)
    winFacts0.to₀ ownSemFacts (Pipeline.PreFacts.none _) EP defs₀ 𝒱₀ m ρ main
    (hmain := fun _ => rfl)
    (hbody := body_obligation rem m ρ ht) (hne := fun w => by fin_cases w <;> exact Nat.succ_pos _) (harr := arr_whole0) (hstage := stage_whole0)
    (hshare := share_eq rem m ρ)
    (hdistinct := winFacts0.arr_inj)
    (O₀ := O₀ rem) (howed₀ := fun _ => rfl) (howedN := fun _ => rfl)
    (L := L) (lv := lv) (hL := L_of_ne) (hwaits := waits rem m ρ)
    (G := G rem m) (G' := G' rem m) (u₀ := u₀)
    (hu₀ := by
      unfold u₀
      iintro Hu
      ihave H := (ownU_pair _ _) $$ Hu
      icases H with ⟨HP, HX⟩
      imod (fund_all rem m) $$ HX with HG
      imodintro
      isplitl [HP] <;> iassumption)
    (hglob := glob rem m)
    (hA := fun _ _ => rfl) (hpf := fun _ k => k.elim0)
    (X := start rem m) (Y := left rem m) (Z := fun _ => iprop(emp))
    (hX := start_intro rem m ρ) (hin := phi0_intro rem m ρ) (hout := phi1_exit rem m ρ)
    (QY := Read rem m)
    (hY := left_read rem m)
    (hQ := fun _ h hs => ⟨fun c => ⟨(h c).2.2.2.1, ((h c).1 (0 : Fin 1)).trans ((dats (F := F) rem m ρ 0 c).arrAt_in (0 : Fin 1) rfl _), (h c).2.2.2.2⟩,
      sem_eq_zero hs fun c => (h c).2.2.1⟩)

end Cert.Permute

end
-- ==== Proof.Value.lean ====
/-
# The reference's value, block by block

The reference permutes the two slabs of its whole array by the order that sorts its table, then narrows. For the two
tables of the claims that order is the table itself, so the block device `c` holds of the reference's result is the
narrowed block of the device `c`'s data comes from: what `run_main` leaves there.
-/
module

public import proofs.«01_k».proof.Proof.Launch
public import proofs.«01_k».proof.Proof.Gen.ReferenceIdeal
public import Idealize.ShloMosaic.Lib.Layout

@[expose] public section

noncomputable section

namespace Cert.Permute

open Idealize.ShloMosaic
open Cert.ReferenceIdeal Cert.ReferenceIdeal.Gen

variable {F : FTy → Type} [FloatOps F]

/-- The table of a claim: entry `i` is `1 - i` when data moves between the devices, `i` when it stays. -/
def table (rem : Bool) : IVec S2 32 :=
  fun i => if rem then BitVec.ofNat 32 (1 - (i 0).val) else BitVec.ofNat 32 (i 0).val

/-! ## The order that sorts the table -/

/-- The order that sorts a table, as the reference computes it. -/
def sorted (p : IVec S2 32) : IVec S2 32 := (Host.sort2 S2 0 comparator_i32_i32_d0 p (iotaInDim S2 32 0)).2

/-- The slab the reference reads for each slab of its result: the order that sorts the table, a negative entry counted
    from the end. -/
def order (p : IVec S2 32) : IVec S2 32 :=
  select (cmpi .slt (sorted p) (broadcastInDim S2 ![] bcast_S_S2 (constantI S_ 32 0#32)))
    (addi (sorted p) (broadcastInDim S2 ![] bcast_S_S2 (constantI S_ 32 2#32))) (sorted p)

/-- Each of the two tables is the order that sorts it. -/
theorem order_table (rem : Bool) : order (table rem) = table rem := by
  cases rem <;> decide

/-! ## The slabs taken -/

/-- The reference's array read at slab `k`, elsewhere as `y`. -/
def slab (k : Fin 2) (y : S2x2048x1024.Idx) : S2x2048x1024.Idx := Function.update y 0 k

/-- The table's entry for the slab an index lies in. -/
def entry (y : S2x2048x1024.Idx) : S2.Idx := fun a => ⟨(y 0).val, by fin_cases a; exact (y 0).isLt⟩

/-- The slabs taken by an order, read at an index: the array at the slab the order names, kept within the array. -/
theorem take_apply {α : Type} (x : S2x2048x1024.Idx → α) (o : IVec S2 32) (y : S2x2048x1024.Idx) :
    Host.gather gather_S2x2048x1024_S2x1_S2x2048x1024_12_0_n_n_0_1_120481024 x (broadcastInDim S2x1 ![0] bcast_S2_S2x1_0 o) y
      = x (slab ⟨min (o (entry y)).toInt.toNat 1, by omega⟩ y) := by
  unfold Host.gather
  congr 1
  funext a
  refine Fin.ext ?_
  match a with
  | ⟨0, _⟩ =>
    have e : (broadcastInDim S2x1 ![0] bcast_S2_S2x1_0 o)
        (gather_S2x2048x1024_S2x1_S2x2048x1024_12_0_n_n_0_1_120481024.siIdx y ⟨0, by decide⟩) = o (entry y) :=
      congrArg o (funext fun b => by fin_cases b; rfl)
    show min ((broadcastInDim S2x1 ![0] bcast_S2_S2x1_0 o)
        (gather_S2x2048x1024_S2x1_S2x2048x1024_12_0_n_n_0_1_120481024.siIdx y ⟨0, by decide⟩)).toInt.toNat 1 + 0 + 0 = _
    rw [e]; rfl
  | ⟨1, _⟩ => exact (Nat.zero_add _).trans rfl
  | ⟨2, _⟩ => exact (Nat.zero_add _).trans rfl

/-- What the reference computes of its array and its table. -/
def refValue (x : FVec F S2x2048x1024 .f32) (p : IVec S2 32) : FVec F S2x2048x1024 .bf16 :=
  truncf .bf16 (Host.gather gather_S2x2048x1024_S2x1_S2x2048x1024_12_0_n_n_0_1_120481024 x
    (broadcastInDim S2x1 ![0] bcast_S2_S2x1_0 (order p))) bitsLt_bf16_f32

/-- Block `c` of an array laid over the mesh's first axis. -/
def part {α : Type} (c : Fin 4) (v : S2x2048x1024.Idx → α) : (⟨3, ![1, 2048, 1024]⟩ : Shape).Idx → α :=
  Layout.blockN ⟨3, ![1, 2048, 1024]⟩ ⟨3, ![2, 2048, 1024]⟩ (Layout.meshBlock [2, 2] ![[0], [], []] c) v

/-- The slab a table names for device `c`'s block is the block of the device its data comes from. -/
theorem slab_of (rem : Bool) (c : Fin 4) (q : S2.Idx) (hq : (q 0).val = Layout.meshLin [2, 2] c.val [0]) :
    min (table rem q).toInt.toNat 1 = Layout.meshLin [2, 2] (src rem c).val [0] := by
  unfold table
  rw [hq]
  clear hq
  revert c
  cases rem <;> decide

/-- Device `c`'s block of the reference's value is the narrowed block of the device its data comes from. -/
theorem part_refValue (rem : Bool) (x : FVec F S2x2048x1024 .f32) (c : Fin 4) :
    part c (refValue x (table rem)) = truncf .bf16 (part (src rem c) x) bitsLt_bf16_f32 := by
  funext i
  unfold refValue
  rw [order_table]
  show FloatOps.truncf .bf16 bitsLt_bf16_f32 (Host.gather _ x _ _) = FloatOps.truncf .bf16 bitsLt_bf16_f32 (x _)
  rw [take_apply]
  congr 2
  funext a
  refine Fin.ext ?_
  have hi : (i 0).val = 0 := by have : (i 0).val < 1 := (i 0).isLt; omega
  match a with
  | ⟨0, _⟩ =>
    refine (slab_of rem c _ ?_).trans ?_
    · show Layout.meshLin [2, 2] c.val [0] * 1 + (i 0).val = _
      rw [hi, Nat.mul_one, Nat.add_zero]
    · show _ = Layout.meshLin [2, 2] (src rem c).val [0] * 1 + (i 0).val
      rw [hi, Nat.mul_one, Nat.add_zero]
  | ⟨1, _⟩ => rfl
  | ⟨2, _⟩ => rfl

end Cert.Permute

end
-- ==== Proof.Pre.lean ====
/-
# The preconditions

Each of the two preconditions, holding of a table, says which table it is: `table true` (every slab moves) or
`table false` (every slab stays). Either is all that `run_main` asks of a device's table.
-/
module

public import proofs.«01_k».proof.Proof.Value
public import proofs.«01_k».proof.Proof.Gen.Pre_swaps_Kernel
public import proofs.«01_k».proof.Proof.Gen.Pre_keeps_Kernel

@[expose] public section

noncomputable section

namespace Cert.Permute

open Idealize.ShloMosaic

variable {F : FTy → Type} [FloatOps F]

local notation "P2" => IVec (⟨1, ![2]⟩ : Shape) 32

/-- Two words whose comparison for equality is the bit one are equal. -/
theorem eq_of_cmpi {a b : BitVec 32} (h : IntOp.cmpi .eq a b = 1#1) : a = b := by
  by_contra hne
  have : IntOp.cmpi .eq a b = 0#1 := by
    show BitVec.ofBool (a == b) = 0#1
    rw [beq_eq_false_iff_ne.mpr hne]; rfl
  rw [this] at h
  exact absurd h (by decide)

/-- A table compared all ones with another is that one. -/
theorem eq_of_cmpi_all {p q : P2} (h : cmpi .eq p q = fun _ => 1#1) : p = q :=
  funext fun i => eq_of_cmpi (congrFun h i)

/-- The first precondition says the table is the one under which every slab moves. -/
theorem swaps_table (x : FVec F ⟨3, ![1, 2048, 1024]⟩ .f32) (p : P2) (h : Cert.Pre_swaps_Kernel.fn x p = fun _ => 1#1) :
    p = table true :=
  (eq_of_cmpi_all h).trans (by decide)

/-- The second precondition says the table is the one under which every slab stays. -/
theorem keeps_table (x : FVec F ⟨3, ![1, 2048, 1024]⟩ .f32) (p : P2) (h : Cert.Pre_keeps_Kernel.fn x p = fun _ => 1#1) :
    p = table false :=
  (eq_of_cmpi_all h).trans (by decide)

open Cert.KernelIdeal Idealize.ShloMosaic.TcCoe in
/-- Every device's table is the claim's: what a run is started from. -/
def Tables (rem : Bool) (m : (ℓ : Loc nD τ sig) → Buf (Elt F) ℓ) : Prop :=
  ∀ c : Dev nD, (show IVec S2 32 from m ((c : Thread nD τ).loc main_arg1)) = table rem

open Cert.KernelIdeal in
/-- Then every device's entry names the expected destination. -/
theorem Tables.entries {rem : Bool} {m : (ℓ : Loc nD τ sig) → Buf (Elt F) ℓ} (h : Tables rem m) : Table rem m :=
  fun c => (congrFun (h c) (place c)).trans rfl

end Cert.Permute

end
-- ==== Proof.Same.lean ====
/-
# The kernel and its reading at exact reals are one program

No operation of the kernel is rewritten, so what is proved of a run of the one, over any float values, holds of the
other.
-/
module

public import proofs.«01_k».proof.Proof.Pre
public import proofs.«01_k».proof.Proof.Gen.Kernel

@[expose] public section

noncomputable section

namespace Cert.Permute

open Idealize.ShloMosaic Idealize.SL.Sem

variable {F : FTy → Type} [FloatOps F]

/-- The two have one table of bodies, -/
theorem bodies_eq : Cert.Kernel.defs₀ (F := F) = Cert.KernelIdeal.defs₀ (F := F) :=
  congrArg Defs.onTc (funext fun ℓ => funext fun a => match ℓ, a with
    | ⟨0, _⟩, (_, _) => rfl
    | ⟨_ + 1, h⟩, _ => absurd h (Nat.not_lt.2 (Nat.le_add_left _ _)))

/-- and so one table of labels; -/
theorem labels_eq : Cert.Kernel.defs (F := F) = Cert.KernelIdeal.defs (F := F) :=
  congrArg (Pipeline.defs Cert.KernelIdeal.pcfgs) bodies_eq

/-- what runs of the one end with, runs of the other do. -/
theorem run_kernel (m : (ℓ : Loc Cert.KernelIdeal.nD Cert.KernelIdeal.τ Cert.KernelIdeal.sig) → Buf (Elt F) ℓ)
    (g : Dev Cert.KernelIdeal.nD → PrngReg)
    (Q : PUnit × MemSt Cert.KernelIdeal.nD Cert.KernelIdeal.τ Cert.KernelIdeal.sig (Elt F) → Prop)
    (h : θ_run Cert.KernelIdeal.defs (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [labels_eq]
  exact h

end Cert.Permute

end
-- ==== Proof.lean ====
/-
# The proof of `Cert.Claim`

The kernel's frames and values come from `Cert.Permute.run_main` (Proof/Launch.lean), proved once for both tables and for
any float values; the reference's from its generated run; that the two values agree, block by block, from
`Cert.Permute.part_refValue` (Proof/Value.lean).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.Reference.Run
public import proofs.«01_k».proof.Proof.Gen.ReferenceIdeal.Run
public import proofs.«01_k».proof.Proof.Gen.Pre_swaps_Kernel
public import proofs.«01_k».proof.Proof.Gen.Pre_keeps_Kernel
public import proofs.«01_k».proof.Proof.Gen.Pre_swaps_Reference
public import proofs.«01_k».proof.Proof.Gen.Pre_keeps_Reference
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem Cert.Permute

/-! ## The frames -/

section
variable {F : FTy → Type} [FloatOps F]
open Cert.KernelIdeal

/-- From the tables of a claim the kernel runs, keeps its arguments and ends with every semaphore at zero. -/
theorem run_frame (rem : Bool) (m : (ℓ : Loc nD τ sig) → Buf (Elt F) ℓ) (g : Dev nD → PrngReg) (ht : Tables rem m) :
    θ_run defs (onTc (τ := τ) (main (F := F))) ⟨m, fun _ => 0, g⟩ fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => ⟨(h.1 c).1, (h.1 c).2.1⟩, h.2⟩) (run_main rem m g ht.entries)

end

/-- The kernel's frame when every slab moves; -/
theorem frame_kernel : Cert.quiescent_Kernel := fun m g hp =>
  run_kernel m g _ (run_frame (F := Bits) true m g fun c => swaps_table _ _ (hp c))

/-- and when every slab stays. -/
theorem frame_kernel_keeps : Cert.quiescent_Kernel_pre_keeps_Kernel := fun m g hp =>
  run_kernel m g _ (run_frame (F := Bits) false m g fun c => keeps_table _ _ (hp c))

/-- The same at exact reals, when every slab moves; -/
theorem frame_ideal : Cert.quiescent_KernelIdeal := fun m g hp =>
  run_frame (F := Ideal) true m g fun c => swaps_table _ _ (hp c)

/-- and when every slab stays. -/
theorem frame_ideal_keeps : Cert.quiescent_KernelIdeal_pre_keeps_Kernel := fun m g hp =>
  run_frame (F := Ideal) false m g fun c => keeps_table _ _ (hp c)

/-- The reference runs, keeps its arguments and has no semaphore. -/
theorem frame_reference : Cert.quiescent_Reference := fun m g _ =>
  (θ_run Cert.Reference.defs _ _).mono (fun r h => ⟨fun c => (h c).2, sem_eq_zero_of_no_sems (by decide) r.2⟩)
    (Cert.Reference.Value.run (F := Bits) m g)

/-- The same at exact reals. -/
theorem frame_reference_ideal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-! ## The values -/

section
variable {F : FTy → Type} [FloatOps F]
open Cert.KernelIdeal

/-- Where every device holds its block of an array and the table of the claim, a run of the kernel leaves on every device
    its block of the reference's value, and the arguments unchanged. -/
theorem run_value (rem : Bool) (m : (ℓ : Loc nD τ sig) → Buf (Elt F) ℓ) (g : Dev nD → PrngReg)
    (x : FVec F ⟨3, ![2, 2048, 1024]⟩ .f32) (hx : ∀ c : Dev nD, m ((c : Thread nD τ).loc main_arg0) = part c x) (ht : Tables rem m) :
    θ_run defs (onTc (τ := τ) (main (F := F))) ⟨m, fun _ => 0, g⟩ fun r => ∀ c : Dev nD,
      r.2.mem ((c : Thread nD τ).loc main_v1) = part c (refValue x (table rem))
        ∧ r.2.mem ((c : Thread nD τ).loc main_arg0) = m ((c : Thread nD τ).loc main_arg0)
        ∧ r.2.mem ((c : Thread nD τ).loc main_arg1) = m ((c : Thread nD τ).loc main_arg1) :=
  (θ_run defs _ _).mono (fun r h c => ⟨(h.1 c).2.2.trans (by
      rw [part_refValue]
      unfold narrowAll
      rw [hx (src rem c)]), (h.1 c).1, (h.1 c).2.1⟩)
    (run_main rem m g ht.entries)

end

/-- The reference, its table the one given, ends at `refValue` of its array and that table, at exact reals; -/
theorem ref_value_ideal (rem : Bool) (m : (ℓ : Loc Cert.ReferenceIdeal.nD Cert.ReferenceIdeal.τ Cert.ReferenceIdeal.sig) → Buf (Elt Ideal) ℓ)
    (g : Dev Cert.ReferenceIdeal.nD → PrngReg)
    (ht : m (((0 : Dev Cert.ReferenceIdeal.nD) : Thread Cert.ReferenceIdeal.nD Cert.ReferenceIdeal.τ).loc Cert.ReferenceIdeal.main_arg1) = table rem) :
    θ_run (Cert.ReferenceIdeal.defs (F := Ideal)) (onTc (τ := Cert.ReferenceIdeal.τ) (Cert.ReferenceIdeal.main (F := Ideal))) ⟨m, fun _ => 0, g⟩ fun r =>
      r.2.mem (((0 : Dev Cert.ReferenceIdeal.nD).tc : Thread Cert.ReferenceIdeal.nD Cert.ReferenceIdeal.τ).loc Cert.ReferenceIdeal.main_v8)
          = refValue (F := Ideal) (m (((0 : Dev Cert.ReferenceIdeal.nD).tc : Thread Cert.ReferenceIdeal.nD Cert.ReferenceIdeal.τ).loc Cert.ReferenceIdeal.main_arg0)) (table rem)
        ∧ r.2.mem (((0 : Dev Cert.ReferenceIdeal.nD).tc : Thread Cert.ReferenceIdeal.nD Cert.ReferenceIdeal.τ).loc Cert.ReferenceIdeal.main_arg0)
          = m (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1)
          = m (((0 : Dev Cert.ReferenceIdeal.nD).tc : Thread Cert.ReferenceIdeal.nD Cert.ReferenceIdeal.τ).loc Cert.ReferenceIdeal.main_arg1) :=
  (θ_run Cert.ReferenceIdeal.defs _ _).mono (fun _ h => ⟨(h 0).1.trans (congrArg (refValue (F := Ideal) _) ht), (h 0).2⟩)
    (Cert.ReferenceIdeal.Value.run (F := Ideal) m g)

/-- and at the chip's floats. -/
theorem ref_value_bits (rem : Bool) (m : (ℓ : Loc Cert.Reference.nD Cert.Reference.τ Cert.Reference.sig) → Buf (Elt Bits) ℓ)
    (g : Dev Cert.Reference.nD → PrngReg)
    (ht : m (((0 : Dev Cert.Reference.nD) : Thread Cert.Reference.nD Cert.Reference.τ).loc Cert.Reference.main_arg1) = table rem) :
    θ_run (Cert.Reference.defs (F := Bits)) (onTc (τ := Cert.Reference.τ) (Cert.Reference.main (F := Bits))) ⟨m, fun _ => 0, g⟩ fun r =>
      r.2.mem (((0 : Dev Cert.Reference.nD).tc : Thread Cert.Reference.nD Cert.Reference.τ).loc Cert.Reference.main_v8)
          = refValue (F := Bits) (m (((0 : Dev Cert.Reference.nD).tc : Thread Cert.Reference.nD Cert.Reference.τ).loc Cert.Reference.main_arg0)) (table rem)
        ∧ r.2.mem (((0 : Dev Cert.Reference.nD).tc : Thread Cert.Reference.nD Cert.Reference.τ).loc Cert.Reference.main_arg0)
          = m (((0 : Dev Cert.Reference.nD).tc : Thread Cert.Reference.nD Cert.Reference.τ).loc Cert.Reference.main_arg0)
        ∧ r.2.mem (((0 : Dev Cert.Reference.nD).tc : Thread Cert.Reference.nD Cert.Reference.τ).loc Cert.Reference.main_arg1)
          = m (((0 : Dev Cert.Reference.nD).tc : Thread Cert.Reference.nD Cert.Reference.τ).loc Cert.Reference.main_arg1) :=
  (θ_run Cert.Reference.defs _ _).mono (fun _ h => ⟨(h 0).1.trans (congrArg (refValue (F := Bits) _) ht), (h 0).2⟩)
    (Cert.Reference.Value.run (F := Bits) m g)

/-- At exact reals the kernel's result is the reference's, when every slab moves; -/
theorem algebraic_swaps : Cert.algebraic_KernelIdeal_ReferenceIdeal := fun m g m' g' hp hm =>
  have ht := fun c => swaps_table (F := Ideal) _ _ (hp c)
  ⟨refValue (F := Ideal) (m' (((0 : Dev Cert.ReferenceIdeal.nD).tc : Thread Cert.ReferenceIdeal.nD Cert.ReferenceIdeal.τ).loc Cert.ReferenceIdeal.main_arg0)) (table true),
    run_value (F := Ideal) true m g (m' (((0 : Dev Cert.ReferenceIdeal.nD).tc : Thread Cert.ReferenceIdeal.nD Cert.ReferenceIdeal.τ).loc Cert.ReferenceIdeal.main_arg0)) (fun c => (hm c).1) ht,
    ref_value_ideal true m' g' ((hm 0).2.symm.trans (ht 0))⟩

/-- and when every slab stays. -/
theorem algebraic_keeps : Cert.algebraic_KernelIdeal_ReferenceIdeal_pre_keeps_Kernel := fun m g m' g' hp hm =>
  have ht := fun c => keeps_table (F := Ideal) _ _ (hp c)
  ⟨refValue (F := Ideal) (m' (((0 : Dev Cert.ReferenceIdeal.nD).tc : Thread Cert.ReferenceIdeal.nD Cert.ReferenceIdeal.τ).loc Cert.ReferenceIdeal.main_arg0)) (table false),
    run_value (F := Ideal) false m g (m' (((0 : Dev Cert.ReferenceIdeal.nD).tc : Thread Cert.ReferenceIdeal.nD Cert.ReferenceIdeal.τ).loc Cert.ReferenceIdeal.main_arg0)) (fun c => (hm c).1) ht,
    ref_value_ideal false m' g' ((hm 0).2.symm.trans (ht 0))⟩

/-- At the chip's floats the kernel's result is the reference's bit for bit, when every slab moves; -/
theorem bitexact_swaps : Cert.bitexact_Kernel_Reference := fun m g m' g' hp hm =>
  have ht := fun c => swaps_table (F := Bits) _ _ (hp c)
  ⟨refValue (F := Bits) (m' (((0 : Dev Cert.Reference.nD).tc : Thread Cert.Reference.nD Cert.Reference.τ).loc Cert.Reference.main_arg0)) (table true),
    run_kernel m g _ (run_value (F := Bits) true m g (m' (((0 : Dev Cert.Reference.nD).tc : Thread Cert.Reference.nD Cert.Reference.τ).loc Cert.Reference.main_arg0)) (fun c => (hm c).1) ht),
    ref_value_bits true m' g' ((hm 0).2.symm.trans (ht 0))⟩

/-- and when every slab stays. -/
theorem bitexact_keeps : Cert.bitexact_Kernel_Reference_pre_keeps_Kernel := fun m g m' g' hp hm =>
  have ht := fun c => keeps_table (F := Bits) _ _ (hp c)
  ⟨refValue (F := Bits) (m' (((0 : Dev Cert.Reference.nD).tc : Thread Cert.Reference.nD Cert.Reference.τ).loc Cert.Reference.main_arg0)) (table false),
    run_kernel m g _ (run_value (F := Bits) false m g (m' (((0 : Dev Cert.Reference.nD).tc : Thread Cert.Reference.nD Cert.Reference.τ).loc Cert.Reference.main_arg0)) (fun c => (hm c).1) ht),
    ref_value_bits false m' g' ((hm 0).2.symm.trans (ht 0))⟩

/-- Every claim. -/
theorem claim : Cert.Claim := ⟨Cert.Kernel.Gen.facts, Cert.KernelIdeal.Gen.facts, Cert.Reference.Gen.facts, Cert.ReferenceIdeal.Gen.facts, Cert.Pre_swaps_Kernel.Gen.facts, Cert.Pre_keeps_Kernel.Gen.facts, Cert.Pre_swaps_Reference.Gen.facts, Cert.Pre_keeps_Reference.Gen.facts,
  frame_kernel, frame_kernel_keeps, frame_ideal, frame_ideal_keeps,
  frame_reference, fun m g _ => frame_reference m g trivial, fun m g _ => frame_reference m g trivial,
  frame_reference_ideal, fun m g _ => frame_reference_ideal m g trivial, fun m g _ => frame_reference_ideal m g trivial,
  trivial, algebraic_swaps, algebraic_keeps, bitexact_swaps, bitexact_keeps⟩

end Cert.Proof

end
